-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_no_ties [hPre_no_ties : Cert.Pre_no_ties.Facts] (m : (ℓ : Loc Cert.KernelIdeal.nD Cert.KernelIdeal.τ Cert.KernelIdeal.sig) → Buf (Elt Ideal) ℓ) : Prop :=
  ∀ c : Dev Cert.KernelIdeal.nD,
    (Cert.Pre_no_ties.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_no_ties [hPre_no_ties : Cert.Pre_no_ties.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_no_ties.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_no_ties [hKernelIdeal : Cert.KernelIdeal.Facts] [hPre_no_ties : Cert.Pre_no_ties.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_no_ties m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_no_ties [hReferenceIdeal : Cert.ReferenceIdeal.Facts] [hPre_no_ties : Cert.Pre_no_ties.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_no_ties m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_no_ties [hKernelIdeal : Cert.KernelIdeal.Facts] [hReferenceIdeal : Cert.ReferenceIdeal.Facts] [hPre_no_ties : Cert.Pre_no_ties.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_no_ties m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v78_0)) (v1 : (c : Dev Cert.KernelIdeal.nD) → Buf (Elt Ideal) ((c.tc : Thread Cert.KernelIdeal.nD Cert.KernelIdeal.τ).loc Cert.KernelIdeal.main_v78_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v78_0) = v0 c
          ∧ r.2.mem ((c.tc : Thread Cert.KernelIdeal.nD Cert.KernelIdeal.τ).loc Cert.KernelIdeal.main_v78_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_v71) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_no_ties : Cert.Pre_no_ties.Facts),
    quiescent_Kernel (hKernel := hKernel)
    ∧ quiescent_KernelIdeal (hKernelIdeal := hKernelIdeal)
    ∧ quiescent_KernelIdeal_pre_no_ties (hKernelIdeal := hKernelIdeal) (hPre_no_ties := hPre_no_ties)
    ∧ quiescent_ReferenceIdeal (hReferenceIdeal := hReferenceIdeal)
    ∧ quiescent_ReferenceIdeal_pre_no_ties (hReferenceIdeal := hReferenceIdeal) (hPre_no_ties := hPre_no_ties)
    ∧ preserves_Kernel_KernelIdeal
    ∧ algebraic_KernelIdeal_ReferenceIdeal_pre_no_ties (hKernelIdeal := hKernelIdeal) (hReferenceIdeal := hReferenceIdeal) (hPre_no_ties := hPre_no_ties)
-- ==== Pre_no_ties.lean ====
abbrev S64x32x8192 : Shape := ⟨3, ![64, 32, 8192]⟩
abbrev S4097 : Shape := ⟨1, ![4097]⟩
abbrev S8192 : Shape := ⟨1, ![8192]⟩
abbrev S_ : Shape := ⟨0, ![]⟩
abbrev S4097x1 : Shape := ⟨2, ![4097, 1]⟩
abbrev S1x8192 : Shape := ⟨2, ![1, 8192]⟩
abbrev S4097x8192 : Shape := ⟨2, ![4097, 8192]⟩
abbrev S64x32x4097 : Shape := ⟨3, ![64, 32, 4097]⟩
abbrev S1 : Shape := ⟨1, ![1]⟩
abbrev S64x32 : Shape := ⟨2, ![64, 32]⟩
abbrev S64x32x6 : Shape := ⟨3, ![64, 32, 6]⟩
abbrev S64x32x5 : Shape := ⟨3, ![64, 32, 5]⟩

class Facts : Prop where
  bcast_S4097_S4097x1_0 : S4097.BroadcastsInDim S4097x1 (![0] : Fin 1 → Fin S4097x1.rank)
  bcast_S8192_S1x8192_1 : S8192.BroadcastsInDim S1x8192 (![1] : Fin 1 → Fin S1x8192.rank)
  bcast_S4097x1_S4097x8192_0_1 : S4097x1.BroadcastsInDim S4097x8192 (![0, 1] : Fin 2 → Fin S4097x8192.rank)
  bcast_S1x8192_S4097x8192_0_1 : S1x8192.BroadcastsInDim S4097x8192 (![0, 1] : Fin 2 → Fin S4097x8192.rank)
  bcast_S_S4097x8192 : S_.BroadcastsInDim S4097x8192 (![] : Fin 0 → Fin S4097x8192.rank)
  bcast_S_S1 : S_.BroadcastsInDim S1 (![] : Fin 0 → Fin S1.rank)
  bcast_S_S64x32 : S_.BroadcastsInDim S64x32 (![] : Fin 0 → Fin S64x32.rank)
  sliceFits_S64x32x4097_S64x32x6 : S64x32x4097.Slices (fun _ => 0) S64x32x6
  slices_S64x32x6_S64x32x5_0_0_0 : S64x32x6.Slices ![0, 0, 0] S64x32x5
  slices_S64x32x6_S64x32x5_0_0_1 : S64x32x6.Slices ![0, 0, 1] S64x32x5
  dot_S64x32x8192_S4097x8192_S64x32x4097_2_1_01_0_n_n_wf : DotDims.WF S64x32x8192 S4097x8192 S64x32x4097 [2] [1] [0, 1] [0] [] []
  scatter_S64x32x4097_S1_S64x32_01_2_2_0_wf : ScatterDims.WF S64x32x4097 S1 S64x32 [0, 1] [2] [2] 0

variable [Facts]

def dot_S64x32x8192_S4097x8192_S64x32x4097_2_1_01_0_n_n : DotDims S64x32x8192 S4097x8192 S64x32x4097 where
  lhsContracting := [2]
  rhsContracting := [1]
  lhsNonContracting := [0, 1]
  rhsNonContracting := [0]
  lhsBatch := []
  rhsBatch := []
  wf := dot_S64x32x8192_S4097x8192_S64x32x4097_2_1_01_0_n_n_wf
def scatter_S64x32x4097_S1_S64x32_01_2_2_0 : ScatterDims S64x32x4097 S1 S64x32 where
  updateWindowDims := [0, 1]
  insertedWindowDims := [2]
  scatterDimsToOperandDims := [2]
  indexVectorDim := 0
  wf := scatter_S64x32x4097_S1_S64x32_01_2_2_0_wf
def fn_part1 {F : FTy → Type} [FloatOps F] (main_v20 : FVec F S64x32x4097 .f32) : IVec S64x32x5 1 :=
  let main_v21 : FVec F S64x32x4097 .f32 := Host.sqrt main_v20
  let main_c : IVec S_ 32 := constantI S_ 32 0#32
  let main_v22 : IVec S1 32 := broadcastInDim S1 ![] bcast_S_S1 main_c
  let main_cst_2 : FVec F S_ .f32 := constant S_ .f32 0x00000000#32
  let main_v23 : FVec F S64x32 .f32 := broadcastInDim S64x32 ![] bcast_S_S64x32 main_cst_2
  let main_v24 : FVec F S64x32x4097 .f32 := (fun x i u => Host.scatter scatter_S64x32x4097_S1_S64x32_01_2_2_0 (fun _ b => b) x i u) main_v21 main_v22 main_v23
  let main_values : FVec F S64x32x6 .f32 := (fun x => (Host.topK S64x32x6 2 (FloatOps.cmpfTotal .gt) x sliceFits_S64x32x4097_S64x32x6).1) main_v24
  let main_indices : IVec S64x32x6 32 := (fun x => (Host.topK S64x32x6 2 (FloatOps.cmpfTotal .gt) x sliceFits_S64x32x4097_S64x32x6).2) main_v24
  let main_v25 : FVec F S64x32x5 .f32 := (extractStridedSlice S64x32x5 ![0, 0, 0] · slices_S64x32x6_S64x32x5_0_0_0) main_values
  let main_v26 : FVec F S64x32x5 .f32 := (extractStridedSlice S64x32x5 ![0, 0, 1] · slices_S64x32x6_S64x32x5_0_0_1) main_values
  let main_v27 : IVec S64x32x5 1 := cmpf .ogt main_v25 main_v26
  main_v27

def fn {F : FTy → Type} [FloatOps F] (main_arg0 : FVec F S64x32x8192 .f32) : IVec S64x32x5 1 :=
  let main_v0 : FVec F S4097 .f32 := sitofp .f32 (iotaInDim S4097 32 0)
  let main_v1 : FVec F S8192 .f32 := sitofp .f32 (iotaInDim S8192 32 0)
  let main_cst : FVec F S_ .f32 := constant S_ .f32 0xBF800000#32
  let main_v2 : FVec F S_ .f32 := Host.acos main_cst
  let main_cst_0 : FVec F S_ .f32 := constant S_ .f32 0x40000000#32
  let main_v3 : FVec F S_ .f32 := mulf main_cst_0 main_v2
  let main_v4 : FVec F S4097x1 .f32 := broadcastInDim S4097x1 ![0] bcast_S4097_S4097x1_0 main_v0
  let main_v5 : FVec F S1x8192 .f32 := broadcastInDim S1x8192 ![1] bcast_S8192_S1x8192_1 main_v1
  let main_v6 : FVec F S4097x8192 .f32 := broadcastInDim S4097x8192 ![0, 1] bcast_S4097x1_S4097x8192_0_1 main_v4
  let main_v7 : FVec F S4097x8192 .f32 := broadcastInDim S4097x8192 ![0, 1] bcast_S1x8192_S4097x8192_0_1 main_v5
  let main_v8 : FVec F S4097x8192 .f32 := mulf main_v6 main_v7
  let main_v9 : FVec F S4097x8192 .f32 := broadcastInDim S4097x8192 ![] bcast_S_S4097x8192 main_v3
  let main_v10 : FVec F S4097x8192 .f32 := mulf main_v9 main_v8
  let main_cst_1 : FVec F S_ .f32 := constant S_ .f32 0x46000000#32
  let main_v11 : FVec F S4097x8192 .f32 := broadcastInDim S4097x8192 ![] bcast_S_S4097x8192 main_cst_1
  let main_v12 : FVec F S4097x8192 .f32 := Host.divf main_v10 main_v11
  let main_v13 : FVec F S4097x8192 .f32 := Host.cos main_v12
  let main_v14 : FVec F S4097x8192 .f32 := Host.sin main_v12
  let main_v15 : FVec F S64x32x4097 .f32 := (fun l r => Host.dotGeneral dot_S64x32x8192_S4097x8192_S64x32x4097_2_1_01_0_n_n (some .fp32) l r) main_arg0 main_v13
  let main_v16 : FVec F S64x32x4097 .f32 := (fun l r => Host.dotGeneral dot_S64x32x8192_S4097x8192_S64x32x4097_2_1_01_0_n_n (some .fp32) l r) main_arg0 main_v14
  let main_v17 : FVec F S64x32x4097 .f32 := Host.negf main_v16
  let main_v18 : FVec F S64x32x4097 .f32 := mulf main_v15 main_v15
  let main_v19 : FVec F S64x32x4097 .f32 := mulf main_v17 main_v17
  let main_v20 : FVec F S64x32x4097 .f32 := addf main_v18 main_v19
  fn_part1 (F := F) main_v20
-- ==== Kernel.lean ====
abbrev S64x32x8192 : Shape := ⟨3, ![64, 32, 8192]⟩
abbrev S64x64 : Shape := ⟨2, ![64, 64]⟩
abbrev S128 : Shape := ⟨1, ![128]⟩
abbrev S1x128 : Shape := ⟨2, ![1, 128]⟩
abbrev S2048x64x128 : Shape := ⟨3, ![2048, 64, 128]⟩
abbrev S_ : Shape := ⟨0, ![]⟩
abbrev S64 : Shape := ⟨1, ![64]⟩
abbrev S64x1 : Shape := ⟨2, ![64, 1]⟩
abbrev S1x64 : Shape := ⟨2, ![1, 64]⟩
abbrev S64x128 : Shape := ⟨2, ![64, 128]⟩
abbrev S128x1 : Shape := ⟨2, ![128, 1]⟩
abbrev S128x128 : Shape := ⟨2, ![128, 128]⟩
abbrev S128x64 : Shape := ⟨2, ![128, 64]⟩
abbrev S128x256 : Shape := ⟨2, ![128, 256]⟩
abbrev S64x256 : Shape := ⟨2, ![64, 256]⟩
abbrev S32x64x128 : Shape := ⟨3, ![32, 64, 128]⟩
abbrev S1x64x128 : Shape := ⟨3, ![1, 64, 128]⟩
abbrev S2048x128 : Shape := ⟨2, ![2048, 128]⟩
abbrev S2048x64 : Shape := ⟨2, ![2048, 64]⟩
abbrev S32x64x64 : Shape := ⟨3, ![32, 64, 64]⟩
abbrev S32x1x128 : Shape := ⟨3, ![32, 1, 128]⟩
abbrev S32x128 : Shape := ⟨2, ![32, 128]⟩
abbrev S32 : Shape := ⟨1, ![32]⟩
abbrev S32x1 : Shape := ⟨2, ![32, 1]⟩
abbrev S32x1x1 : Shape := ⟨3, ![32, 1, 1]⟩
abbrev S1x64x64 : Shape := ⟨3, ![1, 64, 64]⟩
abbrev S32x64 : Shape := ⟨2, ![32, 64]⟩
abbrev S32x256 : Shape := ⟨2, ![32, 256]⟩
abbrev S32x64x1 : Shape := ⟨3, ![32, 64, 1]⟩

abbrev nBuf : Space → Nat
  | .hbm => 97
  | .vmem => 16
  | .smem => 0
  | _ => 0

abbrev bufTy : (tb : Table) → Fin (tcTables nBuf tb) → BufTy
  | .hbm, ⟨0, _⟩ => ⟨S64x32x8192, .f32⟩
  | .hbm, ⟨1, _⟩ => ⟨S64x64, .f32⟩
  | .hbm, ⟨2, _⟩ => ⟨S64x64, .f32⟩
  | .hbm, ⟨3, _⟩ => ⟨S128, .f32⟩
  | .hbm, ⟨4, _⟩ => ⟨S1x128, .f32⟩
  | .hbm, ⟨5, _⟩ => ⟨S2048x64x128, .f32⟩
  | .hbm, ⟨6, _⟩ => ⟨S_, .f32⟩
  | .hbm, ⟨7, _⟩ => ⟨S_, .f32⟩
  | .hbm, ⟨8, _⟩ => ⟨S64, .f32⟩
  | .hbm, ⟨9, _⟩ => ⟨S64, .f32⟩
  | .hbm, ⟨10, _⟩ => ⟨S_, .f32⟩
  | .hbm, ⟨11, _⟩ => ⟨S_, .f32⟩
  | .hbm, ⟨12, _⟩ => ⟨S64x1, .f32⟩
  | .hbm, ⟨13, _⟩ => ⟨S1x64, .f32⟩
  | .hbm, ⟨14, _⟩ => ⟨S64x64, .f32⟩
  | .hbm, ⟨15, _⟩ => ⟨S64x64, .f32⟩
  | .hbm, ⟨16, _⟩ => ⟨S64x64, .f32⟩
  | .hbm, ⟨17, _⟩ => ⟨S64x64, .f32⟩
  | .hbm, ⟨18, _⟩ => ⟨S64x64, .f32⟩
  | .hbm, ⟨19, _⟩ => ⟨S_, .f32⟩
  | .hbm, ⟨20, _⟩ => ⟨S64x64, .f32⟩
  | .hbm, ⟨21, _⟩ => ⟨S64x64, .f32⟩
  | .hbm, ⟨22, _⟩ => ⟨S64x64, .f32⟩
  | .hbm, ⟨23, _⟩ => ⟨S_, .f32⟩
  | .hbm, ⟨24, _⟩ => ⟨S_, .f32⟩
  | .hbm, ⟨25, _⟩ => ⟨S64x1, .f32⟩
  | .hbm, ⟨26, _⟩ => ⟨S1x64, .f32⟩
  | .hbm, ⟨27, _⟩ => ⟨S64x64, .f32⟩
  | .hbm, ⟨28, _⟩ => ⟨S64x64, .f32⟩
  | .hbm, ⟨29, _⟩ => ⟨S64x64, .f32⟩
  | .hbm, ⟨30, _⟩ => ⟨S64x64, .f32⟩
  | .hbm, ⟨31, _⟩ => ⟨S64x64, .f32⟩
  | .hbm, ⟨32, _⟩ => ⟨S_, .f32⟩
  | .hbm, ⟨33, _⟩ => ⟨S64x64, .f32⟩
  | .hbm, ⟨34, _⟩ => ⟨S64x64, .f32⟩
  | .hbm, ⟨35, _⟩ => ⟨S64x64, .f32⟩
  | .hbm, ⟨36, _⟩ => ⟨S128, .f32⟩
  | .hbm, ⟨37, _⟩ => ⟨S_, .f32⟩
  | .hbm, ⟨38, _⟩ => ⟨S_, .f32⟩
  | .hbm, ⟨39, _⟩ => ⟨S64x1, .f32⟩
  | .hbm, ⟨40, _⟩ => ⟨S1x128, .f32⟩
  | .hbm, ⟨41, _⟩ => ⟨S64x128, .f32⟩
  | .hbm, ⟨42, _⟩ => ⟨S64x128, .f32⟩
  | .hbm, ⟨43, _⟩ => ⟨S64x128, .f32⟩
  | .hbm, ⟨44, _⟩ => ⟨S64x128, .f32⟩
  | .hbm, ⟨45, _⟩ => ⟨S64x128, .f32⟩
  | .hbm, ⟨46, _⟩ => ⟨S_, .f32⟩
  | .hbm, ⟨47, _⟩ => ⟨S64x128, .f32⟩
  | .hbm, ⟨48, _⟩ => ⟨S64x128, .f32⟩
  | .hbm, ⟨49, _⟩ => ⟨S64x128, .f32⟩
  | .hbm, ⟨50, _⟩ => ⟨S_, .f32⟩
  | .hbm, ⟨51, _⟩ => ⟨S_, .f32⟩
  | .hbm, ⟨52, _⟩ => ⟨S64x1, .f32⟩
  | .hbm, ⟨53, _⟩ => ⟨S1x128, .f32⟩
  | .hbm, ⟨54, _⟩ => ⟨S64x128, .f32⟩
  | .hbm, ⟨55, _⟩ => ⟨S64x128, .f32⟩
  | .hbm, ⟨56, _⟩ => ⟨S64x128, .f32⟩
  | .hbm, ⟨57, _⟩ => ⟨S64x128, .f32⟩
  | .hbm, ⟨58, _⟩ => ⟨S64x128, .f32⟩
  | .hbm, ⟨59, _⟩ => ⟨S_, .f32⟩
  | .hbm, ⟨60, _⟩ => ⟨S64x128, .f32⟩
  | .hbm, ⟨61, _⟩ => ⟨S64x128, .f32⟩
  | .hbm, ⟨62, _⟩ => ⟨S64x128, .f32⟩
  | .hbm, ⟨63, _⟩ => ⟨S128, .f32⟩
  | .hbm, ⟨64, _⟩ => ⟨S_, .f32⟩
  | .hbm, ⟨65, _⟩ => ⟨S_, .f32⟩
  | .hbm, ⟨66, _⟩ => ⟨S128x1, .f32⟩
  | .hbm, ⟨67, _⟩ => ⟨S1x128, .f32⟩
  | .hbm, ⟨68, _⟩ => ⟨S128x128, .f32⟩
  | .hbm, ⟨69, _⟩ => ⟨S128x128, .f32⟩
  | .hbm, ⟨70, _⟩ => ⟨S128x128, .f32⟩
  | .hbm, ⟨71, _⟩ => ⟨S128x128, .f32⟩
  | .hbm, ⟨72, _⟩ => ⟨S128x128, .f32⟩
  | .hbm, ⟨73, _⟩ => ⟨S_, .f32⟩
  | .hbm, ⟨74, _⟩ => ⟨S128x128, .f32⟩
  | .hbm, ⟨75, _⟩ => ⟨S128x128, .f32⟩
  | .hbm, ⟨76, _⟩ => ⟨S128x128, .f32⟩
  | .hbm, ⟨77, _⟩ => ⟨S_, .f32⟩
  | .hbm, ⟨78, _⟩ => ⟨S_, .f32⟩
  | .hbm, ⟨79, _⟩ => ⟨S128x1, .f32⟩
  | .hbm, ⟨80, _⟩ => ⟨S1x128, .f32⟩
  | .hbm, ⟨81, _⟩ => ⟨S128x128, .f32⟩
  | .hbm, ⟨82, _⟩ => ⟨S128x128, .f32⟩
  | .hbm, ⟨83, _⟩ => ⟨S128x128, .f32⟩
  | .hbm, ⟨84, _⟩ => ⟨S128x128, .f32⟩
  | .hbm, ⟨85, _⟩ => ⟨S128x128, .f32⟩
  | .hbm, ⟨86, _⟩ => ⟨S_, .f32⟩
  | .hbm, ⟨87, _⟩ => ⟨S128x128, .f32⟩
  | .hbm, ⟨88, _⟩ => ⟨S128x128, .f32⟩
  | .hbm, ⟨89, _⟩ => ⟨S128x128, .f32⟩
  | .hbm, ⟨90, _⟩ => ⟨S128x64, .f32⟩
  | .hbm, ⟨91, _⟩ => ⟨S128x64, .f32⟩
  | .hbm, ⟨92, _⟩ => ⟨S128x128, .f32⟩
  | .hbm, ⟨93, _⟩ => ⟨S128x256, .f32⟩
  | .hbm, ⟨94, _⟩ => ⟨S64x256, .f32⟩
  | .hbm, ⟨95, _⟩ => ⟨S2048x64x128, .f32⟩
  | .hbm, ⟨96, _⟩ => ⟨S2048x64x128, .f32⟩
  | .local _ .vmem, ⟨0, _⟩ => ⟨S32x64x128, .f32⟩
  | .local _ .vmem, ⟨1, _⟩ => ⟨S32x64x128, .f32⟩
  | .local _ .vmem, ⟨2, _⟩ => ⟨S64x64, .f32⟩
  | .local _ .vmem, ⟨3, _⟩ => ⟨S64x64, .f32⟩
  | .local _ .vmem, ⟨4, _⟩ => ⟨S64x128, .f32⟩
  | .local _ .vmem, ⟨5, _⟩ => ⟨S64x128, .f32⟩
  | .local _ .vmem, ⟨6, _⟩ => ⟨S64x64, .f32⟩
  | .local _ .vmem, ⟨7, _⟩ => ⟨S64x64, .f32⟩
  | .local _ .vmem, ⟨8, _⟩ => ⟨S128x256, .f32⟩
  | .local _ .vmem, ⟨9, _⟩ => ⟨S64x256, .f32⟩
  | .local _ .vmem, ⟨10, _⟩ => ⟨S128x128, .f32⟩
  | .local _ .vmem, ⟨11, _⟩ => ⟨S1x128, .f32⟩
  | .local _ .vmem, ⟨12, _⟩ => ⟨S32x64x128, .f32⟩
  | .local _ .vmem, ⟨13, _⟩ => ⟨S32x64x128, .f32⟩
  | .local _ .vmem, ⟨14, _⟩ => ⟨S32x64x128, .f32⟩
  | .local _ .vmem, ⟨15, _⟩ => ⟨S32x64x128, .f32⟩
  | _, _ => ⟨S64x32x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_cst_0 : Ref sig .tc := ⟨.hbm, 2, rfl⟩
abbrev main_cst_1 : Ref sig .tc := ⟨.hbm, 3, rfl⟩
abbrev main_v0 : Ref sig .tc := ⟨.hbm, 4, rfl⟩
abbrev main_v1 : Ref sig .tc := ⟨.hbm, 5, rfl⟩
abbrev main_cst_2 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_3 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_4 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_5 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_6 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_7 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_8 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst_9 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_cst_10 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_cst_11 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_cst_12 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_cst_13 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_cst_14 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78_0 : Ref sig .tc := ⟨.hbm, 95, rfl⟩
abbrev main_v78_1 : Ref sig .tc := ⟨.hbm, 96, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_stg12_0 : Ref sig .tc := ⟨.vmem, 14, rfl⟩
abbrev cc0_stg12_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13
abbrev cc0_sem12_0 : DmaSem sig := 14
abbrev cc0_sem12_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S32x64x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S32x64x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== ReferenceIdeal.lean ====
abbrev S64x32x8192 : Shape := ⟨3, ![64, 32, 8192]⟩
abbrev S4097 : Shape := ⟨1, ![4097]⟩
abbrev S8192 : Shape := ⟨1, ![8192]⟩
abbrev S_ : Shape := ⟨0, ![]⟩
abbrev S4097x1 : Shape := ⟨2, ![4097, 1]⟩
abbrev S1x8192 : Shape := ⟨2, ![1, 8192]⟩
abbrev S4097x8192 : Shape := ⟨2, ![4097, 8192]⟩
abbrev S64x32x4097 : Shape := ⟨3, ![64, 32, 4097]⟩
abbrev S1 : Shape := ⟨1, ![1]⟩
abbrev S64x32 : Shape := ⟨2, ![64, 32]⟩
abbrev S64x32x5 : Shape := ⟨3, ![64, 32, 5]⟩
abbrev S1x1x1x4097 : Shape := ⟨4, ![1, 1, 1, 4097]⟩
abbrev S64x32x5x1 : Shape := ⟨4, ![64, 32, 5, 1]⟩
abbrev S64x32x5x4097 : Shape := ⟨4, ![64, 32, 5, 4097]⟩
abbrev S1x1x4097 : Shape := ⟨3, ![1, 1, 4097]⟩
abbrev S2048x64x128 : Shape := ⟨3, ![2048, 64, 128]⟩

abbrev nBuf : Space → Nat
  | .hbm => 97
  | .vmem => 0
  | .smem => 0
  | _ => 0

abbrev bufTy : (tb : Table) → Fin (tcTables nBuf tb) → BufTy
  | .hbm, ⟨0, _⟩ => ⟨S64x32x8192, .f32⟩
  | .hbm, ⟨1, _⟩ => ⟨S4097, .f32⟩
  | .hbm, ⟨2, _⟩ => ⟨S8192, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S4097x1, .f32⟩
  | .hbm, ⟨8, _⟩ => ⟨S1x8192, .f32⟩
  | .hbm, ⟨9, _⟩ => ⟨S4097x8192, .f32⟩
  | .hbm, ⟨10, _⟩ => ⟨S4097x8192, .f32⟩
  | .hbm, ⟨11, _⟩ => ⟨S4097x8192, .f32⟩
  | .hbm, ⟨12, _⟩ => ⟨S4097x8192, .f32⟩
  | .hbm, ⟨13, _⟩ => ⟨S4097x8192, .f32⟩
  | .hbm, ⟨14, _⟩ => ⟨S_, .f32⟩
  | .hbm, ⟨15, _⟩ => ⟨S4097x8192, .f32⟩
  | .hbm, ⟨16, _⟩ => ⟨S4097x8192, .f32⟩
  | .hbm, ⟨17, _⟩ => ⟨S4097x8192, .f32⟩
  | .hbm, ⟨18, _⟩ => ⟨S4097x8192, .f32⟩
  | .hbm, ⟨19, _⟩ => ⟨S64x32x4097, .f32⟩
  | .hbm, ⟨20, _⟩ => ⟨S64x32x4097, .f32⟩
  | .hbm, ⟨21, _⟩ => ⟨S64x32x4097, .f32⟩
  | .hbm, ⟨22, _⟩ => ⟨S64x32x4097, .f32⟩
  | .hbm, ⟨23, _⟩ => ⟨S64x32x4097, .f32⟩
  | .hbm, ⟨24, _⟩ => ⟨S64x32x4097, .f32⟩
  | .hbm, ⟨25, _⟩ => ⟨S64x32x4097, .f32⟩
  | .hbm, ⟨26, _⟩ => ⟨S_, .i32⟩
  | .hbm, ⟨27, _⟩ => ⟨S1, .i32⟩
  | .hbm, ⟨28, _⟩ => ⟨S_, .f32⟩
  | .hbm, ⟨29, _⟩ => ⟨S64x32, .f32⟩
  | .hbm, ⟨30, _⟩ => ⟨S64x32x4097, .f32⟩
  | .hbm, ⟨31, _⟩ => ⟨S64x32x5, .f32⟩
  | .hbm, ⟨32, _⟩ => ⟨S64x32x5, .i32⟩
  | .hbm, ⟨33, _⟩ => ⟨S4097, .i32⟩
  | .hbm, ⟨34, _⟩ => ⟨S1x1x1x4097, .i32⟩
  | .hbm, ⟨35, _⟩ => ⟨S64x32x5x1, .i32⟩
  | .hbm, ⟨36, _⟩ => ⟨S64x32x5x4097, .i32⟩
  | .hbm, ⟨37, _⟩ => ⟨S64x32x5x4097, .i32⟩
  | .hbm, ⟨38, _⟩ => ⟨S64x32x5x4097, .i1⟩
  | .hbm, ⟨39, _⟩ => ⟨S_, .i1⟩
  | .hbm, ⟨40, _⟩ => ⟨S64x32x4097, .i1⟩
  | .hbm, ⟨41, _⟩ => ⟨S_, .f32⟩
  | .hbm, ⟨42, _⟩ => ⟨S_, .f32⟩
  | .hbm, ⟨43, _⟩ => ⟨S64x32x4097, .f32⟩
  | .hbm, ⟨44, _⟩ => ⟨S64x32x4097, .f32⟩
  | .hbm, ⟨45, _⟩ => ⟨S_, .f32⟩
  | .hbm, ⟨46, _⟩ => ⟨S_, .f32⟩
  | .hbm, ⟨47, _⟩ => ⟨S64x32x4097, .f32⟩
  | .hbm, ⟨48, _⟩ => ⟨S64x32x4097, .f32⟩
  | .hbm, ⟨49, _⟩ => ⟨S4097, .i32⟩
  | .hbm, ⟨50, _⟩ => ⟨S_, .i32⟩
  | .hbm, ⟨51, _⟩ => ⟨S4097, .i32⟩
  | .hbm, ⟨52, _⟩ => ⟨S4097, .i1⟩
  | .hbm, ⟨53, _⟩ => ⟨S_, .i32⟩
  | .hbm, ⟨54, _⟩ => ⟨S4097, .i32⟩
  | .hbm, ⟨55, _⟩ => ⟨S4097, .i1⟩
  | .hbm, ⟨56, _⟩ => ⟨S4097, .i1⟩
  | .hbm, ⟨57, _⟩ => ⟨S_, .f32⟩
  | .hbm, ⟨58, _⟩ => ⟨S_, .f32⟩
  | .hbm, ⟨59, _⟩ => ⟨S4097, .f32⟩
  | .hbm, ⟨60, _⟩ => ⟨S4097, .f32⟩
  | .hbm, ⟨61, _⟩ => ⟨S4097, .f32⟩
  | .hbm, ⟨62, _⟩ => ⟨S4097, .f32⟩
  | .hbm, ⟨63, _⟩ => ⟨S8192, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S4097x1, .f32⟩
  | .hbm, ⟨69, _⟩ => ⟨S1x8192, .f32⟩
  | .hbm, ⟨70, _⟩ => ⟨S4097x8192, .f32⟩
  | .hbm, ⟨71, _⟩ => ⟨S4097x8192, .f32⟩
  | .hbm, ⟨72, _⟩ => ⟨S4097x8192, .f32⟩
  | .hbm, ⟨73, _⟩ => ⟨S4097x8192, .f32⟩
  | .hbm, ⟨74, _⟩ => ⟨S4097x8192, .f32⟩
  | .hbm, ⟨75, _⟩ => ⟨S_, .f32⟩
  | .hbm, ⟨76, _⟩ => ⟨S4097x8192, .f32⟩
  | .hbm, ⟨77, _⟩ => ⟨S4097x8192, .f32⟩
  | .hbm, ⟨78, _⟩ => ⟨S4097x8192, .f32⟩
  | .hbm, ⟨79, _⟩ => ⟨S4097x8192, .f32⟩
  | .hbm, ⟨80, _⟩ => ⟨S4097, .f32⟩
  | .hbm, ⟨81, _⟩ => ⟨S1x1x4097, .f32⟩
  | .hbm, ⟨82, _⟩ => ⟨S64x32x4097, .f32⟩
  | .hbm, ⟨83, _⟩ => ⟨S64x32x4097, .f32⟩
  | .hbm, ⟨84, _⟩ => ⟨S64x32x8192, .f32⟩
  | .hbm, ⟨85, _⟩ => ⟨S4097, .f32⟩
  | .hbm, ⟨86, _⟩ => ⟨S1x1x4097, .f32⟩
  | .hbm, ⟨87, _⟩ => ⟨S64x32x4097, .f32⟩
  | .hbm, ⟨88, _⟩ => ⟨S64x32x4097, .f32⟩
  | .hbm, ⟨89, _⟩ => ⟨S64x32x8192, .f32⟩
  | .hbm, ⟨90, _⟩ => ⟨S64x32x8192, .f32⟩
  | .hbm, ⟨91, _⟩ => ⟨S_, .f32⟩
  | .hbm, ⟨92, _⟩ => ⟨S64x32x8192, .f32⟩
  | .hbm, ⟨93, _⟩ => ⟨S64x32x8192, .f32⟩
  | .hbm, ⟨94, _⟩ => ⟨S64x32x8192, .f32⟩
  | .hbm, ⟨95, _⟩ => ⟨S2048x64x128, .f32⟩
  | .hbm, ⟨96, _⟩ => ⟨S2048x64x128, .f32⟩
  | _, _ => ⟨S64x32x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst_1 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_c : Ref sig .tc := ⟨.hbm, 26, rfl⟩
abbrev main_v22 : Ref sig .tc := ⟨.hbm, 27, rfl⟩
abbrev main_cst_2 : Ref sig .tc := ⟨.hbm, 28, rfl⟩
abbrev main_v23 : Ref sig .tc := ⟨.hbm, 29, rfl⟩
abbrev main_v24 : Ref sig .tc := ⟨.hbm, 30, rfl⟩
abbrev main_values : Ref sig .tc := ⟨.hbm, 31, rfl⟩
abbrev main_indices : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_c_3 : Ref sig .tc := ⟨.hbm, 39, rfl⟩
abbrev main_v31 : Ref sig .tc := ⟨.hbm, 40, rfl⟩
abbrev main_cst_4 : Ref sig .tc := ⟨.hbm, 41, rfl⟩
abbrev main_call0_v0 : Ref sig .tc := ⟨.hbm, 42, rfl⟩
abbrev main_call0_v1 : Ref sig .tc := ⟨.hbm, 43, rfl⟩
abbrev main_v32 : Ref sig .tc := ⟨.hbm, 44, rfl⟩
abbrev main_cst_5 : Ref sig .tc := ⟨.hbm, 45, rfl⟩
abbrev main_call1_v0 : Ref sig .tc := ⟨.hbm, 46, rfl⟩
abbrev main_call1_v1 : Ref sig .tc := ⟨.hbm, 47, rfl⟩
abbrev main_v33 : Ref sig .tc := ⟨.hbm, 48, rfl⟩
abbrev main_v34 : Ref sig .tc := ⟨.hbm, 49, rfl⟩
abbrev main_c_6 : Ref sig .tc := ⟨.hbm, 50, rfl⟩
abbrev main_v35 : Ref sig .tc := ⟨.hbm, 51, rfl⟩
abbrev main_v36 : Ref sig .tc := ⟨.hbm, 52, rfl⟩
abbrev main_c_7 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_8 : Ref sig .tc := ⟨.hbm, 57, rfl⟩
abbrev main_cst_9 : Ref sig .tc := ⟨.hbm, 58, rfl⟩
abbrev main_call2_v0 : Ref sig .tc := ⟨.hbm, 59, rfl⟩
abbrev main_call2_v1 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_10 : Ref sig .tc := ⟨.hbm, 64, rfl⟩
abbrev main_v43 : Ref sig .tc := ⟨.hbm, 65, rfl⟩
abbrev main_cst_11 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_12 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_cst_13 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩

abbrev nD : Nat := 1
abbrev τ : Topo := Topo.v7x

variable {F : FTy → Type} [FloatOps F]
-- ==== Proof.Consts.lean ====
/- The kernel's and the reference's scalar constants as real numbers. -/
module

public import Idealize.ShloMosaic.Lib.Pointwise

@[expose] public section

noncomputable section

namespace Cert.Consts

open Idealize.ShloMosaic

/-- `1`. -/
theorem one : Ideal.ofBits .f32 0x3F800000#32 = ((1 : ℝ) : EReal) := by
  simp [Ideal.ofBits, Ideal.ieee, -EReal.coe_mul]; norm_num

/-- `-1`. -/
theorem neg_one : Ideal.ofBits .f32 0xBF800000#32 = ((-1 : ℝ) : EReal) := by
  simp [Ideal.ofBits, Ideal.ieee, -EReal.coe_mul]; norm_num

/-- `2`. -/
theorem two : Ideal.ofBits .f32 0x40000000#32 = ((2 : ℝ) : EReal) := by
  simp [Ideal.ofBits, Ideal.ieee, -EReal.coe_mul]; norm_num

/-- `4096`. -/
theorem nyq : Ideal.ofBits .f32 0x45800000#32 = ((4096 : ℝ) : EReal) := by
  simp [Ideal.ofBits, Ideal.ieee, -EReal.coe_mul]; norm_num

/-- `64`. -/
theorem rad : Ideal.ofBits .f32 0x42800000#32 = ((64 : ℝ) : EReal) := by
  simp [Ideal.ofBits, Ideal.ieee, -EReal.coe_mul]; norm_num

/-- `128`. -/
theorem lanes : Ideal.ofBits .f32 0x43000000#32 = ((128 : ℝ) : EReal) := by
  simp [Ideal.ofBits, Ideal.ieee, -EReal.coe_mul]; norm_num

/-- `8192`. -/
theorem len : Ideal.ofBits .f32 0x46000000#32 = ((8192 : ℝ) : EReal) := by
  simp [Ideal.ofBits, Ideal.ieee, -EReal.coe_mul]; norm_num

/-- `1 / 64`. -/
theorem inv_rad : Ideal.ofBits .f32 0x3C800000#32 = ((1 / 64 : ℝ) : EReal) := by
  simp [Ideal.ofBits, Ideal.ieee, -EReal.coe_mul]; norm_num

/-- `1 / 8192`. -/
theorem inv_len : Ideal.ofBits .f32 0x39000000#32 = ((1 / 8192 : ℝ) : EReal) := by
  simp [Ideal.ofBits, Ideal.ieee, -EReal.coe_mul]; norm_num

/-- Minus infinity. -/
theorem neg_inf : Ideal.ofBits .f32 0xFF800000#32 = (⊥ : EReal) := by
  simp [Ideal.ofBits, Ideal.ieee]

/-- A true bit widened and read as a number. -/
theorem bit_one : (FloatOps.sitofp (F := Ideal) FTy.f32 (BitVec.setWidth 32 1#1) : EReal) = ((1 : ℝ) : EReal) := by
  show (((BitVec.setWidth 32 1#1).toInt : ℝ) : EReal) = _
  norm_num

/-- A false bit widened and read as a number. -/
theorem bit_zero : (FloatOps.sitofp (F := Ideal) FTy.f32 (BitVec.setWidth 32 0#1) : EReal) = ((0 : ℝ) : EReal) := by
  show (((BitVec.setWidth 32 0#1).toInt : ℝ) : EReal) = _
  norm_num

/-- A decided bit widened and read as a number. -/
theorem bit_of (P : Prop) [Decidable P] :
    (FloatOps.sitofp (F := Ideal) FTy.f32 (BitVec.setWidth 32 (BitVec.ofBool (decide P))) : EReal) = ((if P then (1 : ℝ) else 0 : ℝ) : EReal) := by
  by_cases h : P
  · simp only [h, decide_true, if_true]; exact bit_one
  · simp only [h, decide_false, if_false]; exact bit_zero

/-- A small whole number truncated to a word. -/
theorem word_of (n : ℕ) (h : n < 8192) : FloatOps.fptosi (F := Ideal) (φ := .f32) 32 ((n : ℝ) : EReal) = BitVec.ofNat 32 n := by
  show BitVec.ofInt 32 (max (-(2 ^ (32 - 1) : Nat)) (min ((2 ^ (32 - 1) : Nat) - 1) (Ideal.truncInt (n : ℝ)))) = _
  have h1 : Ideal.truncInt (n : ℝ) = (n : ℤ) := by
    unfold Ideal.truncInt
    rw [if_pos (by positivity)]; exact Int.floor_natCast n
  rw [h1]
  have h2 : max (-(2 ^ (32 - 1) : Nat) : ℤ) (min ((2 ^ (32 - 1) : Nat) - 1) (n : ℤ)) = n := by
    rw [min_eq_right (by norm_num; omega), max_eq_right (by norm_num)]
  rw [h2]
  exact BitVec.ofInt_natCast _ _

/-- The coercion of a sum of reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

end Cert.Consts
-- ==== Proof.Angle.lean ====
/- An angle of a wave table, as the programs compute it, is a real number. -/
module

public import proofs.«01_k».proof.Proof.Consts

@[expose] public section

noncomputable section

namespace Cert.Angle

open Idealize.ShloMosaic

/-- An index's word read as a number. -/
theorem word_num (n : ℕ) (h : n < 8192) : (FloatOps.sitofp (F := Ideal) FTy.f32 (BitVec.ofNat 32 n) : EReal) = ((n : ℝ) : EReal) := by
  show (((BitVec.ofNat 32 n).toInt : ℝ) : EReal) = _
  rw [show (BitVec.ofNat 32 n).toInt = (n : ℤ) by rw [BitVec.toInt_ofNat']; exact Int.bmod_eq_of_le (by first | (norm_num; done) | (norm_num; omega)) (by first | (norm_num; done) | (norm_num; omega))]
  simp

/-- The arc cosine of minus one. -/
theorem acos_neg_one : Ideal.acos (Ideal.ofBits FTy.f32 0xBF800000#32) = (Real.pi : EReal) := by
  rw [Consts.neg_one]
  show (if -1 ≤ (-1 : ℝ) ∧ (-1 : ℝ) ≤ 1 then (Real.arccos (-1) : EReal) else ⊥) = _
  rw [if_pos (by norm_num), Real.arccos_neg_one]

/-- A real quotient. -/
theorem div_coe (x y : ℝ) (hy : y ≠ 0) : Ideal.div (x : EReal) (y : EReal) = ((x / y : ℝ) : EReal) := by
  unfold Ideal.div
  rw [if_neg (by exact_mod_cast hy), ← EReal.coe_inv, ← EReal.coe_mul, div_eq_mul_inv]

/-- An angle: twice the arc cosine of minus one, times two indices, over the period. -/
theorem angle_eq (d : BitVec 32) (k n : ℕ) (hk : k < 8192) (hn : n < 8192) {D : ℝ} (hd : Ideal.ofBits FTy.f32 d = (D : EReal)) (h0 : D ≠ 0) :
    Ideal.div (Ideal.ofBits FTy.f32 0x40000000#32 * Ideal.acos (Ideal.ofBits FTy.f32 0xBF800000#32)
        * (FloatOps.sitofp (F := Ideal) FTy.f32 (BitVec.ofNat 32 k) * FloatOps.sitofp (F := Ideal) FTy.f32 (BitVec.ofNat 32 n) : EReal)) (Ideal.ofBits FTy.f32 d)
      = ((2 * Real.pi * (k * n) / D : ℝ) : EReal) := by
  rw [acos_neg_one, Consts.two, hd, word_num _ hk, word_num _ hn, ← EReal.coe_mul, ← EReal.coe_mul, ← EReal.coe_mul, div_coe _ _ h0]

end Cert.Angle
-- ==== Proof.Trig.lean ====
/- The factored discrete Fourier transform over the reals: 8192 = 64 · 128. -/
module

public import Idealize.ShloMosaic.Lib.Pointwise

@[expose] public section

noncomputable section

namespace Cert.Trig

open Real Finset

/-- The angle of frequency `k` at position `n`. -/
def ang (k n : ℕ) : ℝ := 2 * π * (k * n) / 8192

/-- The angle of the first stage. -/
def ang1 (k n : ℕ) : ℝ := 2 * π * (k * n) / 64

/-- The angle of the second stage. -/
def ang2 (k n : ℕ) : ℝ := 2 * π * (k * n) / 128

/-- The split of the angle, up to whole turns. -/
theorem ang_split (k1 k2 n1 n2 : ℕ) :
    ang (k1 + 64 * k2) (128 * n1 + n2) = ang1 k1 n1 + ang k1 n2 + ang2 k2 n2 + (k2 * n1 : ℕ) * (2 * π) := by
  unfold ang ang1 ang2
  push_cast
  ring

/-- The cosine's split. -/
theorem cos_split (k1 k2 n1 n2 : ℕ) :
    cos (ang (k1 + 64 * k2) (128 * n1 + n2)) = cos (ang1 k1 n1 + ang k1 n2 + ang2 k2 n2) := by
  rw [ang_split, cos_add_nat_mul_two_pi]

/-- The sine's split. -/
theorem sin_split (k1 k2 n1 n2 : ℕ) :
    sin (ang (k1 + 64 * k2) (128 * n1 + n2)) = sin (ang1 k1 n1 + ang k1 n2 + ang2 k2 n2) := by
  rw [ang_split, sin_add_nat_mul_two_pi]

/-- The real part of a row's spectrum at `k`. -/
def re (x : ℕ → ℝ) (k : ℕ) : ℝ := ∑ n : Fin 8192, x n * cos (ang k n)

/-- The imaginary part of a row's spectrum at `k`. -/
def im (x : ℕ → ℝ) (k : ℕ) : ℝ := - ∑ n : Fin 8192, x n * sin (ang k n)

/-- The first stage's real part. -/
def yr (x : ℕ → ℝ) (k1 n2 : ℕ) : ℝ := ∑ n1 : Fin 64, cos (ang1 k1 n1) * x (128 * n1 + n2)

/-- The first stage's imaginary part. -/
def yi (x : ℕ → ℝ) (k1 n2 : ℕ) : ℝ := 0 - ∑ n1 : Fin 64, sin (ang1 k1 n1) * x (128 * n1 + n2)

/-- The twiddled first stage's real part. -/
def pr (x : ℕ → ℝ) (k1 n2 : ℕ) : ℝ := yr x k1 n2 * cos (ang k1 n2) + yi x k1 n2 * sin (ang k1 n2)

/-- The twiddled first stage's imaginary part. -/
def pi' (x : ℕ → ℝ) (k1 n2 : ℕ) : ℝ := yi x k1 n2 * cos (ang k1 n2) - yr x k1 n2 * sin (ang k1 n2)

/-- A sum over a row as a double sum. -/
theorem sum_row (g : ℕ → ℝ) : ∑ n : Fin 8192, g n = ∑ n2 : Fin 128, ∑ n1 : Fin 64, g (128 * n1 + n2) := by
  rw [Finset.sum_comm, ← Finset.sum_product', Finset.univ_product_univ]
  refine (Fintype.sum_equiv (finProdFinEquiv (m := 64) (n := 128)) _ _ fun x => ?_).symm
  congr 1
  simp [finProdFinEquiv]; ring

/-- The second stage's real part is the spectrum's. -/
theorem re_eq (x : ℕ → ℝ) (k1 k2 : ℕ) :
    (∑ n : Fin 128, pr x k1 n * cos (ang2 k2 n)) + ∑ n : Fin 128, pi' x k1 n * sin (ang2 k2 n) = re x (k1 + 64 * k2) := by
  refine Eq.trans ?_ (sum_row (fun n => x n * cos (ang (k1 + 64 * k2) n))).symm
  rw [← Finset.sum_add_distrib]
  refine Finset.sum_congr rfl fun n2 _ => ?_
  unfold pr pi' yr yi
  simp only [cos_split, cos_add, sin_add]
  simp only [zero_sub, Finset.sum_mul, neg_mul, add_mul, sub_mul, ← Finset.sum_neg_distrib, ← Finset.sum_add_distrib, ← Finset.sum_sub_distrib]
  refine Finset.sum_congr rfl fun n1 _ => ?_
  ring

/-- The second stage's imaginary part is the spectrum's. -/
theorem im_eq (x : ℕ → ℝ) (k1 k2 : ℕ) :
    (∑ n : Fin 128, pi' x k1 n * cos (ang2 k2 n)) - ∑ n : Fin 128, pr x k1 n * sin (ang2 k2 n) = im x (k1 + 64 * k2) := by
  refine Eq.trans ?_ (congrArg Neg.neg (sum_row (fun n => x n * sin (ang (k1 + 64 * k2) n)))).symm
  rw [← Finset.sum_sub_distrib, ← Finset.sum_neg_distrib]
  refine Finset.sum_congr rfl fun n2 _ => ?_
  unfold pr pi' yr yi
  simp only [sin_split, cos_add, sin_add]
  simp only [zero_sub, Finset.sum_mul, neg_mul, add_mul, sub_mul, ← Finset.sum_neg_distrib, ← Finset.sum_add_distrib, ← Finset.sum_sub_distrib]
  refine Finset.sum_congr rfl fun n1 _ => ?_
  ring

/-- The second stage's cosine at the Nyquist frequency. -/
theorem cos_nyq (n : ℕ) : cos (ang2 64 n) = (-1) ^ n := by
  have : ang2 64 n = n * π := by unfold ang2; push_cast; ring
  rw [this, cos_nat_mul_pi]

/-- The second stage's sine at the Nyquist frequency. -/
theorem sin_nyq (n : ℕ) : sin (ang2 64 n) = 0 := by
  have : ang2 64 n = n * π := by unfold ang2; push_cast; ring
  rw [this, sin_nat_mul_pi]

/-- The alternating sum of the first row is the Nyquist bin's real part. -/
theorem re_nyq (x : ℕ → ℝ) : ∑ n : Fin 128, pr x 0 n * (-1) ^ (n : ℕ) = re x 4096 := by
  rw [show (4096 : ℕ) = 0 + 64 * 64 from rfl, ← re_eq]
  simp only [cos_nyq, sin_nyq, mul_zero, Finset.sum_const_zero, add_zero]

/-- The alternating sum of the first row is the Nyquist bin's imaginary part. -/
theorem im_nyq (x : ℕ → ℝ) : ∑ n : Fin 128, pi' x 0 n * (-1) ^ (n : ℕ) = im x 4096 := by
  rw [show (4096 : ℕ) = 0 + 64 * 64 from rfl, ← im_eq]
  simp only [cos_nyq, sin_nyq, mul_zero, Finset.sum_const_zero, sub_zero]

/-- The rank-one form of a wave. -/
theorem wave_eq (a b s : ℝ) (f n1 n2 : ℕ) :
    s * (a * cos (ang1 (f % 64) n1) - b * sin (ang1 (f % 64) n1))
        * (cos (ang (f % 64) n2) * cos (ang2 (f / 64) n2) - sin (ang (f % 64) n2) * sin (ang2 (f / 64) n2))
      - s * (a * sin (ang1 (f % 64) n1) + b * cos (ang1 (f % 64) n1))
        * (cos (ang (f % 64) n2) * sin (ang2 (f / 64) n2) + sin (ang (f % 64) n2) * cos (ang2 (f / 64) n2))
      = s * (a * cos (ang f (128 * n1 + n2)) - b * sin (ang f (128 * n1 + n2))) := by
  conv_rhs => rw [← Nat.mod_add_div f 64, cos_split, sin_split]
  simp only [cos_add, sin_add]
  ring

end Cert.Trig
-- ==== Proof.Lit.lean ====
/- The kernel's literal tables: the bins' numbers, the valid bins, the alternating signs. -/
module

public import proofs.«01_k».proof.Proof.Gen.KernelIdeal
public import proofs.«01_k».proof.Proof.Consts

@[expose] public section

set_option maxRecDepth 16384

noncomputable section

namespace Cert.KernelIdeal.Lit

open Idealize.ShloMosaic Cert.KernelIdeal

/-- The word is the pattern of the whole number. -/
def codes (w : BitVec 32) (n : ℕ) : Bool :=
  (w == 0#32 && n == 0) || ((w.extractLsb' 31 1 == 0#1) && decide (1 ≤ (w.extractLsb' 23 8).toNat) && decide ((w.extractLsb' 23 8).toNat ≤ 150)
    && (2 ^ 23 + (w.extractLsb' 0 23).toNat == n * 2 ^ (150 - (w.extractLsb' 23 8).toNat)))

/-- Such a word denotes the number. -/
theorem codes_eq (w : BitVec 32) (n : ℕ) (h : codes w n = true) : Ideal.ofBits FTy.f32 w = ((n : ℝ) : EReal) := by
  unfold codes at h
  simp only [Bool.or_eq_true, Bool.and_eq_true, beq_iff_eq, decide_eq_true_eq] at h
  rcases h with ⟨rfl, rfl⟩ | ⟨⟨⟨hs, h1⟩, h2⟩, h3⟩
  · simp [Ideal.ofBits, Ideal.ieee]
  · show Ideal.ieee 8 23 w = _
    unfold Ideal.ieee
    dsimp only
    rw [show (w.extractLsb' (8 + 23) 1 == 1#1) = false from by rw [show 8 + 23 = 31 from rfl, hs]; rfl]
    rw [if_neg (by omega), if_neg (by omega), h3]
    refine congrArg Real.toEReal ?_
    generalize (w.extractLsb' 23 8).toNat = e at *
    rw [if_neg (by decide), one_mul, show (e : ℤ) - (2 ^ (8 - 1) - 1) - ((23 : ℕ) : ℤ) = -((150 - e : ℕ) : ℤ) by norm_num; omega,
      zpow_neg, zpow_natCast, Nat.cast_mul, Nat.cast_pow, Nat.cast_ofNat, mul_assoc, mul_inv_cancel₀ (pow_ne_zero _ (by norm_num)), mul_one]

/-- The bins' numbers, in order. -/
theorem bins : ∀ q : Fin 4096, codes (lit0 q) (q.val / 64 + 64 * (q.val % 64)) = true := by decide +kernel

/-- The valid bins' words, in order. -/
theorem valids : ∀ q : Fin 4096, lit1 q = if q.val = 0 then 0#32 else 0x3F800000#32 := by decide +kernel

/-- The alternating signs' words, in order. -/
theorem alts : ∀ q : Fin 128, lit2 q = if q.val % 2 = 0 then 0x3F800000#32 else 0xBF800000#32 := by decide +kernel

end Cert.KernelIdeal.Lit
-- ==== Proof.Tab.lean ====
/- The kernel's host tables at an index. -/
module

public import proofs.«01_k».proof.Proof.Gen.KernelIdeal.Value
public import proofs.«01_k».proof.Proof.Angle
public import proofs.«01_k».proof.Proof.Trig
public import proofs.«01_k».proof.Proof.Lit
public import Idealize.ShloMosaic.Lib.StableHlo.ReadAt
public import Idealize.ShloMosaic.Lib.Pointwise

@[expose] public section

set_option maxRecDepth 16384

noncomputable section

namespace Cert.KernelIdeal.Tab

open Cert.Trig Idealize.ShloMosaic Idealize.ShloMosaic.TcCoe Idealize.ShloMosaic.Pointwise Cert.KernelIdeal Cert.KernelIdeal.Gen

variable (m : (ℓ : Loc nD τ sig) → Buf (Elt Ideal) ℓ) (c : Dev nD)

/-- The cosine of a real angle. -/
theorem cos_of {x : EReal} {r : ℝ} (h : x = (r : EReal)) : Ideal.cos x = (Real.cos r : EReal) := by rw [h]; rfl

/-- The sine of a real angle. -/
theorem sin_of {x : EReal} {r : ℝ} (h : x = (r : EReal)) : Ideal.sin x = (Real.sin r : EReal) := by rw [h]; rfl

/-- First-stage cosines. -/
theorem v15 (k : Fin 64) (n : Fin 64) : V m c main_v15 (ix2 k n) = (Real.cos (ang1 k n) : EReal) := by
  unfold V
  after_reads_at
  exact cos_of (Angle.angle_eq _ _ _ (by omega) (by omega) Consts.rad (by norm_num))

/-- First-stage sines. -/
theorem v26 (k : Fin 64) (n : Fin 64) : V m c main_v26 (ix2 k n) = (Real.sin (ang1 k n) : EReal) := by
  unfold V
  after_reads_at
  exact sin_of (Angle.angle_eq _ _ _ (by omega) (by omega) Consts.rad (by norm_num))

/-- Twiddle cosines. -/
theorem v38 (k : Fin 64) (n : Fin 128) : V m c main_v38 (ix2 k n) = (Real.cos (ang k n) : EReal) := by
  unfold V
  after_reads_at
  exact cos_of (Angle.angle_eq _ _ _ (by omega) (by omega) Consts.len (by norm_num))

/-- Twiddle sines. -/
theorem v49 (k : Fin 64) (n : Fin 128) : V m c main_v49 (ix2 k n) = (Real.sin (ang k n) : EReal) := by
  unfold V
  after_reads_at
  exact sin_of (Angle.angle_eq _ _ _ (by omega) (by omega) Consts.len (by norm_num))

/-- A position in a square table, in order. -/
theorem order2 (i j : Fin 64) : (S64x64.rowMajor (ix2 i j) : Fin 4096).val = i.val * 64 + j.val := rowMajor_val2 _ 64 rfl

/-- A position in a row, in order. -/
theorem order1 (n : Fin 128) : (S128.rowMajor (ix1 n) : Fin 128).val = n.val := rowMajor_val1 _

/-- The bins' numbers. -/
theorem cst (i j : Fin 64) : (V m c main_cst (ix2 i j) : EReal) = (((i.val + 64 * j.val : ℕ) : ℝ) : EReal) := by
  unfold V
  after_reads_at
  have h := Lit.codes_eq _ _ (Lit.bins (S64x64.rowMajor (ix2 i j)))
  rw [order2, show (i.val * 64 + j.val) / 64 = i.val by omega, show (i.val * 64 + j.val) % 64 = j.val by omega] at h
  exact h

/-- The valid bins. -/
theorem cst_0 (i j : Fin 64) : (0 : EReal) < (V m c main_cst_0 (ix2 i j) : EReal) ↔ i.val + 64 * j.val ≠ 0 := by
  unfold V
  after_reads_at
  have h := Lit.valids (S64x64.rowMajor (ix2 i j))
  rw [order2] at h
  show (0 : EReal) < Ideal.ofBits FTy.f32 (lit1 (S64x64.rowMajor (ix2 i j))) ↔ _
  rw [h]
  by_cases q : i.val * 64 + j.val = 0
  · rw [if_pos q]
    exact ⟨fun p => absurd p (by simp [Ideal.ofBits, Ideal.ieee]), fun p => absurd (by omega) p⟩
  · rw [if_neg q]
    refine ⟨fun _ => by omega, fun _ => ?_⟩
    rw [Consts.one]
    exact EReal.coe_pos.2 one_pos

/-- The alternating signs. -/
theorem v0 (n : Fin 128) : V m c main_v0 (ix2 0 n) = (((-1) ^ n.val : ℝ) : EReal) := by
  unfold V
  after_reads_at
  have h := Lit.alts (S128.rowMajor (ix1 n))
  rw [order1] at h
  rw [h]
  by_cases q : n.val % 2 = 0
  · rw [if_pos q, (Nat.even_iff.2 q).neg_one_pow]
    exact Consts.one
  · rw [if_neg q, (Nat.odd_iff.2 (by omega)).neg_one_pow]
    exact Consts.neg_one

/-- The input. -/
theorem v1 (r : Fin 2048) (i : Fin 64) (j : Fin 128) : V m c main_v1 (ix3 r i j)
    = m ((c.tc : Thread nD τ).loc main_arg0) (ix3 ⟨r.val / 32, by omega⟩ ⟨r.val % 32, by omega⟩ ⟨128 * i.val + j.val, by omega⟩) := by
  unfold V
  after_reads_at
  refine congrArg (m ((c.tc : Thread nD τ).loc main_arg0)) ?_
  exact congrArg (ix3 _ _) (Fin.ext (by show i.val * 128 + j.val = 128 * i.val + j.val; omega))

/-- Second-stage cosines, joined. -/
theorem v76_cos (k : Fin 128) (n : Fin 128) : V m c main_v76 (ix2 k ⟨n.val, by omega⟩) = (Real.cos (ang2 k n) : EReal) := by
  unfold V
  after_reads_at
  exact cos_of (Angle.angle_eq _ _ _ (by omega) (by omega) Consts.lanes (by norm_num))

/-- Second-stage sines, joined. -/
theorem v76_sin (k : Fin 128) (n : Fin 128) : V m c main_v76 (ix2 k ⟨128 + n.val, by omega⟩) = (Real.sin (ang2 k n) : EReal) := by
  unfold V
  after_reads_at
  exact sin_of (Angle.angle_eq _ _ _ (by omega) (by omega) Consts.lanes (by norm_num))

/-- Twiddle cosines, joined. -/
theorem v77_cos (k : Fin 64) (n : Fin 128) : V m c main_v77 (ix2 k ⟨n.val, by omega⟩) = (Real.cos (ang k n) : EReal) := by
  unfold V
  after_reads_at
  exact cos_of (Angle.angle_eq _ _ _ (by omega) (by omega) Consts.len (by norm_num))

/-- Twiddle sines, joined. -/
theorem v77_sin (k : Fin 64) (n : Fin 128) : V m c main_v77 (ix2 k ⟨128 + n.val, by omega⟩) = (Real.sin (ang k n) : EReal) := by
  unfold V
  after_reads_at
  exact sin_of (Angle.angle_eq _ _ _ (by omega) (by omega) Consts.len (by norm_num))

/-- Second-stage cosines of the half spectrum. -/
theorem v75_cos (k : Fin 128) (n : Fin 64) : V m c main_v75 (ix2 k ⟨n.val, by omega⟩) = (Real.cos (ang2 k n) : EReal) := by
  unfold V
  after_reads_at
  exact cos_of (Angle.angle_eq _ _ _ (by omega) (by omega) Consts.lanes (by norm_num))

/-- Second-stage sines of the half spectrum. -/
theorem v75_sin (k : Fin 128) (n : Fin 64) : V m c main_v75 (ix2 k ⟨64 + n.val, by omega⟩) = (Real.sin (ang2 k n) : EReal) := by
  unfold V
  after_reads_at
  exact sin_of (Angle.angle_eq _ _ _ (by omega) (by omega) Consts.lanes (by norm_num))

end Cert.KernelIdeal.Tab
-- ==== Proof.Round.lean ====
/- One selection round of the kernel body as functions of its state, and the five rounds the body is printed
   with as its iterates. -/
module

public import proofs.«01_k».proof.Proof.Gen.KernelIdeal.Frame
public import Idealize.ShloMosaic.Lib.Pointwise

@[expose] public section

set_option maxRecDepth 16384

noncomputable section

namespace Cert.KernelIdeal.Rounds

open Idealize.ShloMosaic Cert.KernelIdeal Cert.KernelIdeal.Gen

/-- The scalar constant of bits `w` spread over `[32, 1, 1]`. -/
abbrev k1 (w : BitVec 32) : FVec Ideal S32x1x1 .f32 := broadcast S32x1x1 (Scalar.ofBits .f32 w)

/-- The greatest remaining grid magnitude of each sequence. -/
def rMax (mag : FVec Ideal S32x64x64 .f32) : FVec Ideal S32x1x1 .f32 :=
  shapeCast S32x1x1 (multiReduction .maximumf [1, 2] S32 mag 0xFF800000#32 reduces_S32x64x64_S32 (.inl rfl) rfl) shapeCasts_S32_S32x1x1

/-- The Nyquist magnitude, or `-1` once it is taken. -/
def rEff (ny : FVec Ideal S32x1x1 .f32) (t : IVec S32x1x1 1) : FVec Ideal S32x1x1 .f32 := select t (k1 0xBF800000#32) ny

/-- Whether the round takes the Nyquist bin. -/
def rIs (ny : FVec Ideal S32x1x1 .f32) (mag : FVec Ideal S32x64x64 .f32) (t : IVec S32x1x1 1) : IVec S32x1x1 1 :=
  cmpf .ogt (rEff ny t) (rMax mag)

/-- Whether the Nyquist bin is taken after the round. -/
def rTaken (ny : FVec Ideal S32x1x1 .f32) (mag : FVec Ideal S32x64x64 .f32) (t : IVec S32x1x1 1) : IVec S32x1x1 1 :=
  ori t (rIs ny mag t)

/-- The bits of the grid bins equal to the round's maximum. -/
def rEq (ny : FVec Ideal S32x1x1 .f32) (mag : FVec Ideal S32x64x64 .f32) (t : IVec S32x1x1 1) : IVec S32x64x64 1 :=
  cmpf .oeq mag (broadcastTo S32x64x64 (select (rIs ny mag t) (rEff ny t) (rMax mag)) broadcasts_S32x1x1_S32x64x64)

/-- The round's selection as zeros and ones. -/
def rSel (ny : FVec Ideal S32x1x1 .f32) (mag : FVec Ideal S32x64x64 .f32) (t : IVec S32x1x1 1) : FVec Ideal S32x64x64 .f32 :=
  sitofp .f32 (extui 32 (rEq ny mag t) natLt_1_32)

/-- The round's Nyquist flag as zero or one. -/
def rFlag (ny : FVec Ideal S32x1x1 .f32) (mag : FVec Ideal S32x64x64 .f32) (t : IVec S32x1x1 1) : FVec Ideal S32x1x1 .f32 :=
  sitofp .f32 (extui 32 (rIs ny mag t) natLt_1_32)

/-- The magnitudes with a selection struck out. -/
def rStrike (mag sel : FVec Ideal S32x64x64 .f32) : FVec Ideal S32x64x64 .f32 :=
  select (cmpf .ogt sel (broadcast S32x64x64 (Scalar.ofBits .f32 0x00000000#32))) (broadcast S32x64x64 (Scalar.ofBits .f32 0xBF800000#32)) mag

/-- A grid array summed over a selection. -/
def rSum (sel z : FVec Ideal S32x64x64 .f32) : FVec Ideal S32x1x1 .f32 :=
  shapeCast S32x1x1 (multiReduction .add [1, 2] S32 (mulf sel z) 0x00000000#32 reduces_S32x64x64_S32 (.inl rfl) rfl) shapeCasts_S32_S32x1x1

/-- The selected coefficient: over the grid, plus the Nyquist one if the flag is up. -/
def rCoef (z : FVec Ideal S32x64x64 .f32) (n : FVec Ideal S32x1 .f32) (sel : FVec Ideal S32x64x64 .f32) (fl : FVec Ideal S32x1x1 .f32) :
    FVec Ideal S32x1x1 .f32 :=
  addf (rSum sel z) (mulf fl (shapeCast S32x1x1 n shapeCasts_S32x1_S32x1x1))

/-- The selected frequency. -/
def rFreq (fg : FVec Ideal S64x64 .f32) (sel : FVec Ideal S32x64x64 .f32) (fl : FVec Ideal S32x1x1 .f32) : FVec Ideal S32x1x1 .f32 :=
  addf (rSum sel (broadcastTo S32x64x64 (shapeCast S1x64x64 fg shapeCasts_S64x64_S1x64x64) broadcasts_S1x64x64_S32x64x64))
    (mulf fl (k1 0x45800000#32))

/-- The quotient of the frequency by 64. -/
def rHi (f : FVec Ideal S32x1x1 .f32) : FVec Ideal S32x1x1 .f32 := floor (mulf f (k1 0x3C800000#32))

/-- The remainder of the frequency by 64. -/
def rLo (f : FVec Ideal S32x1x1 .f32) : FVec Ideal S32x1x1 .f32 := subf f (mulf (k1 0x42800000#32) (rHi f))

/-- The scale of the selected frequency: one at the Nyquist frequency and two elsewhere, over 8192. -/
def rScale (f : FVec Ideal S32x1x1 .f32) : FVec Ideal S32x1 .f32 :=
  shapeCast S32x1 (mulf (select (cmpf .oeq f (k1 0x45800000#32)) (k1 0x3F800000#32) (k1 0x40000000#32)) (k1 0x39000000#32))
    shapeCasts_S32x1x1_S32x1

/-- The one-hot row of the remainder. -/
def rRow (f : FVec Ideal S32x1x1 .f32) : FVec Ideal S32x64 .f32 :=
  sitofp .f32 (extui 32 (cmpi .eq (iota .tc S32x64 32 [1] iota_S32x64_d1_w32)
    (broadcastTo S32x64 (fptosi 32 (shapeCast S32x1 (rLo f) shapeCasts_S32x1x1_S32x1)) broadcasts_S32x1_S32x64)) natLt_1_32)

/-- The one-hot row of the quotient. -/
def rCol (f : FVec Ideal S32x1x1 .f32) : FVec Ideal S32x128 .f32 :=
  sitofp .f32 (extui 32 (cmpi .eq (iota .tc S32x128 32 [1] iota_S32x128_d1_w32)
    (broadcastTo S32x128 (fptosi 32 (shapeCast S32x1 (rHi f) shapeCasts_S32x1x1_S32x1)) broadcasts_S32x1_S32x128)) natLt_1_32)

/-- A table's rows picked by the one-hot remainder. -/
def rU (tab : FVec Ideal S64x64 .f32) (f : FVec Ideal S32x1x1 .f32) : FVec Ideal S32x64 .f32 :=
  matmul dot_S32x64_S64x64_S32x64_1_0_0_1_n_n (some .fp32) (rRow f) tab (constant S32x64 .f32 0x00000000#32)

/-- The twiddle rows picked by the one-hot remainder. -/
def rT (ctst : FVec Ideal S64x256 .f32) (f : FVec Ideal S32x1x1 .f32) : FVec Ideal S32x256 .f32 :=
  matmul dot_S32x64_S64x256_S32x256_1_0_0_1_n_n (some .fp32) (rRow f) ctst (constant S32x256 .f32 0x00000000#32)

/-- The second-stage rows picked by the one-hot quotient. -/
def rC (c2s2 : FVec Ideal S128x256 .f32) (f : FVec Ideal S32x1x1 .f32) : FVec Ideal S32x256 .f32 :=
  matmul dot_S32x128_S128x256_S32x256_1_0_0_1_n_n (some .fp32) (rCol f) c2s2 (constant S32x256 .f32 0x00000000#32)

/-- The left half of a row of 256. -/
def rL (x : FVec Ideal S32x256 .f32) : FVec Ideal S32x128 .f32 := extractStridedSlice S32x128 ![0, 0] x slices_S32x256_o0_0_S32x128

/-- The right half of a row of 256. -/
def rR (x : FVec Ideal S32x256 .f32) : FVec Ideal S32x128 .f32 := extractStridedSlice S32x128 ![0, 128] x slices_S32x256_o0_128_S32x128

/-- The real part of the second-stage wave. -/
def rWre (t c : FVec Ideal S32x256 .f32) : FVec Ideal S32x128 .f32 := subf (mulf (rL t) (rL c)) (mulf (rR t) (rR c))

/-- The imaginary part of the second-stage wave. -/
def rWim (t c : FVec Ideal S32x256 .f32) : FVec Ideal S32x128 .f32 := addf (mulf (rL t) (rR c)) (mulf (rR t) (rL c))

/-- One scalar per sequence spread over 64 lanes. -/
def rB (x : FVec Ideal S32x1 .f32) : FVec Ideal S32x64 .f32 := broadcastTo S32x64 x broadcasts_S32x1_S32x64

/-- A scalar per sequence without its last unit axis. -/
def rFlat (x : FVec Ideal S32x1x1 .f32) : FVec Ideal S32x1 .f32 := shapeCast S32x1 x shapeCasts_S32x1x1_S32x1

/-- The real part of the scaled first-stage wave. -/
def rUre (a b : FVec Ideal S32x1x1 .f32) (s : FVec Ideal S32x1 .f32) (u v : FVec Ideal S32x64 .f32) : FVec Ideal S32x64 .f32 :=
  mulf (rB s) (subf (mulf (rB (rFlat a)) u) (mulf (rB (rFlat b)) v))

/-- The imaginary part of the scaled first-stage wave. -/
def rUim (a b : FVec Ideal S32x1x1 .f32) (s : FVec Ideal S32x1 .f32) (u v : FVec Ideal S32x64 .f32) : FVec Ideal S32x64 .f32 :=
  mulf (rB s) (addf (mulf (rB (rFlat a)) v) (mulf (rB (rFlat b)) u))

/-- The outer product of a column of 64 and a row of 128, per sequence. -/
def rOuter (u : FVec Ideal S32x64 .f32) (w : FVec Ideal S32x128 .f32) : FVec Ideal S32x64x128 .f32 :=
  mulf (broadcastTo S32x64x128 (shapeCast S32x64x1 u shapeCasts_S32x64_S32x64x1) broadcasts_S32x64x1_S32x64x128)
    (broadcastTo S32x64x128 (shapeCast S32x1x128 w shapeCasts_S32x128_S32x1x128) broadcasts_S32x1x128_S32x64x128)

/-- The season with the selected wave added: `a` and `b` the coefficient's two parts and `f` its frequency. -/
def rAdd (c1 s1 : FVec Ideal S64x64 .f32) (c2s2 : FVec Ideal S128x256 .f32) (ctst : FVec Ideal S64x256 .f32)
    (season : FVec Ideal S32x64x128 .f32) (a b f : FVec Ideal S32x1x1 .f32) : FVec Ideal S32x64x128 .f32 :=
  subf (addf season (rOuter (rUre a b (rScale f) (rU c1 f) (rU s1 f)) (rWre (rT ctst f) (rC c2s2 f))))
    (rOuter (rUim a b (rScale f) (rU c1 f) (rU s1 f)) (rWim (rT ctst f) (rC c2s2 f)))

/-- The five rounds' magnitudes: `magAt n` is what round `n` starts from, with `takenAt n` the Nyquist bin's state. -/
def stateAt (ny : FVec Ideal S32x1x1 .f32) (mag : FVec Ideal S32x64x64 .f32) : ℕ → FVec Ideal S32x64x64 .f32 × IVec S32x1x1 1
  | 0 => (mag, broadcast S32x1x1 0#1)
  | n + 1 => (rStrike (stateAt ny mag n).1 (rSel ny (stateAt ny mag n).1 (stateAt ny mag n).2), rTaken ny (stateAt ny mag n).1 (stateAt ny mag n).2)

section Adds

variable (c1 s1 fg : FVec Ideal S64x64 .f32) (c2s2 : FVec Ideal S128x256 .f32) (ctst : FVec Ideal S64x256 .f32)
  (season : FVec Ideal S32x64x128 .f32) (z w : FVec Ideal S32x64x64 .f32) (n o : FVec Ideal S32x1 .f32)
  (ny : FVec Ideal S32x1x1 .f32) (mag sel : FVec Ideal S32x64x64 .f32) (t : IVec S32x1x1 1) (f : FVec Ideal S32x1x1 .f32)

/-- The third round's update as it is printed. -/
theorem add_two (b : IVec S32x1x1 1) (e : IVec S32x64x64 1) :
    k0_pay177 s1 c2s2 ctst season (k0_pay169 z n b e) (k0_pay170 w o b e) (k0_pay173 fg b e) (k0_pay174 fg b e) (k0_pay175 fg b e) (k0_pay176 c1 fg b e)
      = rAdd c1 s1 c2s2 ctst season (rCoef z n (sitofp .f32 (extui 32 e natLt_1_32)) (sitofp .f32 (extui 32 b natLt_1_32)))
          (rCoef w o (sitofp .f32 (extui 32 e natLt_1_32)) (sitofp .f32 (extui 32 b natLt_1_32)))
          (rFreq fg (sitofp .f32 (extui 32 e natLt_1_32)) (sitofp .f32 (extui 32 b natLt_1_32))) := rfl

/-- The fourth round's update as it is printed. -/
theorem add_three :
    k0_pay192 c1 s1 c2s2 ctst season (k0_pay185 z n mag (rMax mag) (rEff ny t)) (k0_pay186 w o mag (rMax mag) (rEff ny t))
        (k0_pay189 fg mag (rMax mag) (rEff ny t)) (k0_pay190 fg mag (rMax mag) (rEff ny t)) (iota .tc S32x128 32 [1] iota_S32x128_d1_w32)
        (k0_pay191 fg mag (rMax mag) (rEff ny t))
      = rAdd c1 s1 c2s2 ctst season (rCoef z n (rSel ny mag t) (rFlag ny mag t)) (rCoef w o (rSel ny mag t) (rFlag ny mag t))
          (rFreq fg (rSel ny mag t) (rFlag ny mag t)) := rfl

/-- The fifth round's update as it is printed. -/
theorem add_four :
    k0_pay206 c1 s1 c2s2 ctst season (k0_pay199 z n ny t mag) (k0_pay200 w o ny t mag) (k0_pay203 fg ny t mag) (k0_pay204 fg ny t mag)
        (k0_pay205 fg ny t mag)
      = rAdd c1 s1 c2s2 ctst season (rCoef z n (rSel ny mag t) (rFlag ny mag t)) (rCoef w o (rSel ny mag t) (rFlag ny mag t))
          (rFreq fg (rSel ny mag t) (rFlag ny mag t)) := rfl

/-- The second round's update as it is printed. -/
theorem add_one (mag' sel' : FVec Ideal S32x64x64 .f32) (fl : FVec Ideal S32x1x1 .f32)
    (h : rSel ny (rStrike mag' sel') t = sel) :
    k0_pay160 c2s2 season (k0_pay149 n fl (k0_pay148 z ny mag' t sel')) (k0_pay150 w o sel fl)
        (k0_pay153 fg sel fl) (k0_pay155 fg sel fl) (k0_pay156 c1 fg sel fl) (k0_pay157 s1 fg sel fl) (k0_pay158 fg ctst sel fl) (k0_pay159 fg ctst sel fl)
      = rAdd c1 s1 c2s2 ctst season (rCoef z n sel fl) (rCoef w o sel fl) (rFreq fg sel fl) := by
  subst h; rfl

/-- The first round's update as it is printed. -/
theorem add_zero (x6 : FVec Ideal S64x64 .f32) (x10 : FVec Ideal S1x128 .f32) (u v : FVec Ideal S32x64x128 .f32) (p q : FVec Ideal S2048x128 .f32)
    (r : FVec Ideal S2048x64 .f32) (fl : FVec Ideal S32x1x1 .f32) (hs : k0_pay122 x6 x10 u v p q r = sel) (hf : k0_pay123 x6 x10 u v p q r = fl) :
    k0_pay140 season (k0_pay126 (k0_pay124 x6 x10 u v p q r) (k0_pay125 x6 x10 u v p q r)) (k0_pay127 w o sel fl)
        (k0_pay130 fg sel fl) (k0_pay132 c1 fg sel fl) (k0_pay133 s1 fg sel fl) (k0_pay135 fg ctst sel fl) (k0_pay136 fg ctst sel fl)
        (k0_pay138 fg c2s2 sel fl) (k0_pay139 fg c2s2 sel fl)
      = rAdd c1 s1 c2s2 ctst season (rCoef (k0_pay110 r) (k0_pay112 x10 u) sel fl) (rCoef w o sel fl) (rFreq fg sel fl) := by
  subst hs hf; rfl

end Adds

section Printed

variable (x0 : Vec Ideal S32x64x128 .f32) (x1 : Vec Ideal S64x64 .f32) (x2 : Vec Ideal S64x64 .f32) (x3 : Vec Ideal S64x128 .f32)
  (x4 : Vec Ideal S64x128 .f32) (x5 : Vec Ideal S64x64 .f32) (x6 : Vec Ideal S64x64 .f32) (x7 : Vec Ideal S128x256 .f32)
  (x8 : Vec Ideal S64x256 .f32) (x9 : Vec Ideal S128x128 .f32) (x10 : Vec Ideal S1x128 .f32)

/-- The magnitudes that round `n` starts from. -/
abbrev mg (n : ℕ) := (stateAt (k0_pay282 x0 x1 x2 x3 x4 x5 x6 x7 x8 x9 x10) (k0_pay283 x0 x1 x2 x3 x4 x5 x6 x7 x8 x9 x10) n).1

/-- Whether the Nyquist bin is taken before round `n`. -/
abbrev tk (n : ℕ) := (stateAt (k0_pay282 x0 x1 x2 x3 x4 x5 x6 x7 x8 x9 x10) (k0_pay283 x0 x1 x2 x3 x4 x5 x6 x7 x8 x9 x10) n).2

/-- Round `n`'s selection. -/
abbrev sl (n : ℕ) := rSel (k0_pay282 x0 x1 x2 x3 x4 x5 x6 x7 x8 x9 x10) (mg x0 x1 x2 x3 x4 x5 x6 x7 x8 x9 x10 n) (tk x0 x1 x2 x3 x4 x5 x6 x7 x8 x9 x10 n)

/-- Round `n`'s Nyquist flag. -/
abbrev fl (n : ℕ) := rFlag (k0_pay282 x0 x1 x2 x3 x4 x5 x6 x7 x8 x9 x10) (mg x0 x1 x2 x3 x4 x5 x6 x7 x8 x9 x10 n) (tk x0 x1 x2 x3 x4 x5 x6 x7 x8 x9 x10 n)

/-- The Nyquist state after the first round. -/
theorem tk_one : k0_pay284 x0 x1 x2 x3 x4 x5 x6 x7 x8 x9 x10 =
    tk x0 x1 x2 x3 x4 x5 x6 x7 x8 x9 x10 1 := rfl

/-- The first round's selection. -/
theorem sl_zero : k0_pay285 x0 x1 x2 x3 x4 x5 x6 x7 x8 x9 x10 =
    sl x0 x1 x2 x3 x4 x5 x6 x7 x8 x9 x10 0 := rfl

/-- The first round's Nyquist flag. -/
theorem fl_zero : k0_pay286 x0 x1 x2 x3 x4 x5 x6 x7 x8 x9 x10 =
    fl x0 x1 x2 x3 x4 x5 x6 x7 x8 x9 x10 0 := rfl

/-- The second round's magnitudes. -/
theorem mg_one : k0_pay287 x0 x1 x2 x3 x4 x5 x6 x7 x8 x9 x10 =
    mg x0 x1 x2 x3 x4 x5 x6 x7 x8 x9 x10 1 := by
  show k0_pay141 _ (k0_pay285 x0 x1 x2 x3 x4 x5 x6 x7 x8 x9 x10) = _
  rw [sl_zero]; rfl

/-- The Nyquist state after the second round. -/
theorem tk_two : k0_pay288 x0 x1 x2 x3 x4 x5 x6 x7 x8 x9 x10 =
    tk x0 x1 x2 x3 x4 x5 x6 x7 x8 x9 x10 2 := by
  unfold k0_pay288
  rw [tk_one, sl_zero]; rfl

/-- The second round's selection. -/
theorem sl_one : k0_pay289 x0 x1 x2 x3 x4 x5 x6 x7 x8 x9 x10 =
    sl x0 x1 x2 x3 x4 x5 x6 x7 x8 x9 x10 1 := by
  unfold k0_pay289
  rw [tk_one, sl_zero]; rfl

/-- The second round's Nyquist flag. -/
theorem fl_one : k0_pay290 x0 x1 x2 x3 x4 x5 x6 x7 x8 x9 x10 =
    fl x0 x1 x2 x3 x4 x5 x6 x7 x8 x9 x10 1 := by
  unfold k0_pay290
  rw [tk_one, sl_zero]; rfl

/-- The third round's magnitudes. -/
theorem mg_two : k0_pay291 x0 x1 x2 x3 x4 x5 x6 x7 x8 x9 x10 =
    mg x0 x1 x2 x3 x4 x5 x6 x7 x8 x9 x10 2 := by
  unfold k0_pay291
  rw [mg_one, sl_one]; rfl

/-- The third round's Nyquist bit. -/
theorem is_two : k0_pay292 x0 x1 x2 x3 x4 x5 x6 x7 x8 x9 x10 =
    rIs (k0_pay282 x0 x1 x2 x3 x4 x5 x6 x7 x8 x9 x10) (mg x0 x1 x2 x3 x4 x5 x6 x7 x8 x9 x10 2) (tk x0 x1 x2 x3 x4 x5 x6 x7 x8 x9 x10 2) := by
  unfold k0_pay292
  rw [mg_one, tk_two, sl_one]; rfl

/-- The Nyquist state after the third round. -/
theorem tk_three : k0_pay293 x0 x1 x2 x3 x4 x5 x6 x7 x8 x9 x10 =
    tk x0 x1 x2 x3 x4 x5 x6 x7 x8 x9 x10 3 := by
  unfold k0_pay293
  rw [mg_one, tk_two, sl_one]; rfl

/-- The third round's bits. -/
theorem eq_two : k0_pay294 x0 x1 x2 x3 x4 x5 x6 x7 x8 x9 x10 =
    rEq (k0_pay282 x0 x1 x2 x3 x4 x5 x6 x7 x8 x9 x10) (mg x0 x1 x2 x3 x4 x5 x6 x7 x8 x9 x10 2) (tk x0 x1 x2 x3 x4 x5 x6 x7 x8 x9 x10 2) := by
  unfold k0_pay294
  rw [mg_one, tk_two, sl_one]; rfl

/-- The third round's selection, converted. -/
theorem sl_two : k0_pay295 x0 x1 x2 x3 x4 x5 x6 x7 x8 x9 x10 =
    sitofp .f32 (extui 32 (rEq (k0_pay282 x0 x1 x2 x3 x4 x5 x6 x7 x8 x9 x10) (mg x0 x1 x2 x3 x4 x5 x6 x7 x8 x9 x10 2) (tk x0 x1 x2 x3 x4 x5 x6 x7 x8 x9 x10 2)) natLt_1_32) := by
  unfold k0_pay295
  rw [eq_two]; rfl

/-- The fourth round's magnitudes. -/
theorem mg_three : k0_pay296 x0 x1 x2 x3 x4 x5 x6 x7 x8 x9 x10 =
    mg x0 x1 x2 x3 x4 x5 x6 x7 x8 x9 x10 3 := by
  unfold k0_pay296
  rw [mg_two, sl_two]; rfl

/-- The fourth round's maximum. -/
theorem max_three : k0_pay297 x0 x1 x2 x3 x4 x5 x6 x7 x8 x9 x10 =
    rMax (mg x0 x1 x2 x3 x4 x5 x6 x7 x8 x9 x10 3) := by
  unfold k0_pay297
  rw [mg_two, sl_two]; rfl

/-- The fourth round's Nyquist magnitude. -/
theorem eff_three : k0_pay298 x0 x1 x2 x3 x4 x5 x6 x7 x8 x9 x10 =
    rEff (k0_pay282 x0 x1 x2 x3 x4 x5 x6 x7 x8 x9 x10) (tk x0 x1 x2 x3 x4 x5 x6 x7 x8 x9 x10 3) := by
  unfold k0_pay298
  rw [tk_three]; rfl

/-- The Nyquist state after the fourth round. -/
theorem tk_four : k0_pay299 x0 x1 x2 x3 x4 x5 x6 x7 x8 x9 x10 =
    tk x0 x1 x2 x3 x4 x5 x6 x7 x8 x9 x10 4 := by
  unfold k0_pay299
  rw [tk_three, max_three, eff_three]; rfl

/-- The fifth round's magnitudes. -/
theorem mg_four : k0_pay300 x0 x1 x2 x3 x4 x5 x6 x7 x8 x9 x10 =
    mg x0 x1 x2 x3 x4 x5 x6 x7 x8 x9 x10 4 := by
  unfold k0_pay300
  rw [mg_three, max_three, eff_three]; rfl

/-- The season after `n` rounds. -/
def seasonAt : ℕ → FVec Ideal S32x64x128 .f32
  | 0 => k0_pay116
  | n + 1 => rAdd (k0_pay208 x0 x1 x2 x3 x4 x5 x6 x7 x8 x9 x10) (k0_pay209 x0 x1 x2 x3 x4 x5 x6 x7 x8 x9 x10) (k0_pay212 x0 x1 x2 x3 x4 x5 x6 x7 x8 x9 x10)
      (k0_pay213 x0 x1 x2 x3 x4 x5 x6 x7 x8 x9 x10) (seasonAt n)
      (rCoef (k0_pay278 x0 x1 x2 x3 x4 x5 x6 x7 x8 x9 x10) (k0_pay280 x0 x1 x2 x3 x4 x5 x6 x7 x8 x9 x10) (sl x0 x1 x2 x3 x4 x5 x6 x7 x8 x9 x10 n) (fl x0 x1 x2 x3 x4 x5 x6 x7 x8 x9 x10 n))
      (rCoef (k0_pay279 x0 x1 x2 x3 x4 x5 x6 x7 x8 x9 x10) (k0_pay281 x0 x1 x2 x3 x4 x5 x6 x7 x8 x9 x10) (sl x0 x1 x2 x3 x4 x5 x6 x7 x8 x9 x10 n) (fl x0 x1 x2 x3 x4 x5 x6 x7 x8 x9 x10 n))
      (rFreq (View.ld x5 r0_1) (sl x0 x1 x2 x3 x4 x5 x6 x7 x8 x9 x10 n) (fl x0 x1 x2 x3 x4 x5 x6 x7 x8 x9 x10 n))

/-- The body's season is the season after five rounds. -/
theorem season_eq : k0_pay301 x0 x1 x2 x3 x4 x5 x6 x7 x8 x9 x10 = seasonAt x0 x1 x2 x3 x4 x5 x6 x7 x8 x9 x10 5 := by
  unfold k0_pay301
  rw [add_zero (c1 := (k0_pay208 x0 x1 x2 x3 x4 x5 x6 x7 x8 x9 x10)) (s1 := (k0_pay209 x0 x1 x2 x3 x4 x5 x6 x7 x8 x9 x10)) (c2s2 := (k0_pay212 x0 x1 x2 x3 x4 x5 x6 x7 x8 x9 x10)) (ctst := (k0_pay213 x0 x1 x2 x3 x4 x5 x6 x7 x8 x9 x10)) (sel := (k0_pay285 x0 x1 x2 x3 x4 x5 x6 x7 x8 x9 x10)) (fl := (k0_pay286 x0 x1 x2 x3 x4 x5 x6 x7 x8 x9 x10)) (hs := rfl) (hf := rfl)]
  rw [tk_one, sl_zero, fl_zero, sl_one, fl_one, is_two, eq_two, mg_three, max_three, eff_three, tk_four, mg_four]
  rw [add_four, add_three, add_two]
  rw [add_one (c1 := (k0_pay208 x0 x1 x2 x3 x4 x5 x6 x7 x8 x9 x10)) (s1 := (k0_pay209 x0 x1 x2 x3 x4 x5 x6 x7 x8 x9 x10)) (c2s2 := (k0_pay212 x0 x1 x2 x3 x4 x5 x6 x7 x8 x9 x10)) (ctst := (k0_pay213 x0 x1 x2 x3 x4 x5 x6 x7 x8 x9 x10)) (mag' := (k0_pay283 x0 x1 x2 x3 x4 x5 x6 x7 x8 x9 x10)) (sel' := sl x0 x1 x2 x3 x4 x5 x6 x7 x8 x9 x10 0) (t := tk x0 x1 x2 x3 x4 x5 x6 x7 x8 x9 x10 1)
    (ny := (k0_pay282 x0 x1 x2 x3 x4 x5 x6 x7 x8 x9 x10)) (sel := sl x0 x1 x2 x3 x4 x5 x6 x7 x8 x9 x10 1) (h := rfl)]
  rfl

end Printed

end Cert.KernelIdeal.Rounds

end
-- ==== Proof.Front.lean ====
/- What the kernel body computes before its rounds, read at an index: the first stage, the twiddle, the second
   stage, the Nyquist bin and the first magnitudes. -/
module

public import proofs.«01_k».proof.Proof.Round
public import Idealize.ShloMosaic.Lib.Pipeline.ValueKit

@[expose] public section

set_option maxRecDepth 16384

noncomputable section

namespace Cert.KernelIdeal.Rounds

open Idealize.ShloMosaic Cert.KernelIdeal Cert.KernelIdeal.Gen

/-- The slab of one sequence lies inside the block. -/
theorem slab_fits (t : Fin 32) : S32x64x128.Slices ![(t : ℕ), 0, 0] S1x64x128 :=
  ⟨rfl, fun a => by
    have := t.isLt
    match a with
    | 0 => show (t : ℕ) + 1 ≤ 32; omega
    | 1 => show 0 + 64 ≤ 64; omega
    | 2 => show 0 + 128 ≤ 128; omega⟩

/-- A table times the slab of sequence `t`. -/
def slabDot (c : FVec Ideal S64x64 .f32) (x : FVec Ideal S32x64x128 .f32) (t : Fin 32) : FVec Ideal S1x64x128 .f32 :=
  shapeCast S1x64x128 (matmul dot_S64x64_S64x128_S64x128_1_0_0_1_n_n (some .fp32) c
    (shapeCast S64x128 (extractStridedSlice S1x64x128 ![(t : ℕ), 0, 0] x (slab_fits t)) shapeCasts_S1x64x128_S64x128)
    (constant S64x128 .f32 0x00000000#32)) shapeCasts_S64x128_S1x64x128

/-- The product at an index. -/
theorem slabDot_at (c : FVec Ideal S64x64 .f32) (x : FVec Ideal S32x64x128 .f32) (t : Fin 32) (k : Fin 64) (n : Fin 128) :
    slabDot c x t (ix3 0 k n) = ∑ n1 : Fin 64, c (ix2 k n1) * x (ix3 t n1 n) := by
  unfold slabDot
  pointwise

/-- Thirty-two slabs stacked, read at an index. -/
theorem stack_at (v : Fin 32 → FVec Ideal S1x64x128 .f32) (b : Fin 32) (k : Fin 64) (n : Fin 128) :
    concatenate S32x64x128 0 [⟨S1x64x128, v 0⟩, ⟨S1x64x128, v 1⟩, ⟨S1x64x128, v 2⟩, ⟨S1x64x128, v 3⟩, ⟨S1x64x128, v 4⟩, ⟨S1x64x128, v 5⟩, ⟨S1x64x128, v 6⟩, ⟨S1x64x128, v 7⟩, ⟨S1x64x128, v 8⟩, ⟨S1x64x128, v 9⟩, ⟨S1x64x128, v 10⟩, ⟨S1x64x128, v 11⟩, ⟨S1x64x128, v 12⟩, ⟨S1x64x128, v 13⟩, ⟨S1x64x128, v 14⟩, ⟨S1x64x128, v 15⟩, ⟨S1x64x128, v 16⟩, ⟨S1x64x128, v 17⟩, ⟨S1x64x128, v 18⟩, ⟨S1x64x128, v 19⟩, ⟨S1x64x128, v 20⟩, ⟨S1x64x128, v 21⟩, ⟨S1x64x128, v 22⟩, ⟨S1x64x128, v 23⟩, ⟨S1x64x128, v 24⟩, ⟨S1x64x128, v 25⟩, ⟨S1x64x128, v 26⟩, ⟨S1x64x128, v 27⟩, ⟨S1x64x128, v 28⟩, ⟨S1x64x128, v 29⟩, ⟨S1x64x128, v 30⟩, ⟨S1x64x128, v 31⟩] concatenates_S1x64x128_S1x64x128_S1x64x128_S1x64x128_S1x64x128_S1x64x128_S1x64x128_S1x64x128_S1x64x128_S1x64x128_S1x64x128_S1x64x128_S1x64x128_S1x64x128_S1x64x128_S1x64x128_S1x64x128_S1x64x128_S1x64x128_S1x64x128_S1x64x128_S1x64x128_S1x64x128_S1x64x128_S1x64x128_S1x64x128_S1x64x128_S1x64x128_S1x64x128_S1x64x128_S1x64x128_S1x64x128_S32x64x128_d0 (ix3 b k n) = v b (ix3 0 k n) := by
  refine concatenate_ofFn_unit_eq 0 v (by exact concatenates_S1x64x128_S1x64x128_S1x64x128_S1x64x128_S1x64x128_S1x64x128_S1x64x128_S1x64x128_S1x64x128_S1x64x128_S1x64x128_S1x64x128_S1x64x128_S1x64x128_S1x64x128_S1x64x128_S1x64x128_S1x64x128_S1x64x128_S1x64x128_S1x64x128_S1x64x128_S1x64x128_S1x64x128_S1x64x128_S1x64x128_S1x64x128_S1x64x128_S1x64x128_S1x64x128_S1x64x128_S1x64x128_S32x64x128_d0) (ix3 b k n) (v b (ix3 0 k n)) rfl rfl (fun t i h0 h1 h2 => ?_)
  have e0 : b = t := Fin.ext h0
  have e : i = ix3 0 k n := by
    funext a
    match a with
    | 0 => exact Fin.ext h1
    | 1 => exact Fin.ext (h2 1 (by decide))
    | 2 => exact Fin.ext (h2 2 (by decide))
  rw [e, e0]

/-- Zero less a table times the slab of sequence `t`. -/
def slabNeg (c : FVec Ideal S64x64 .f32) (x : FVec Ideal S32x64x128 .f32) (t : Fin 32) : FVec Ideal S1x64x128 .f32 :=
  subf (broadcast S1x64x128 (Scalar.ofBits .f32 0x00000000#32)) (slabDot c x t)

/-- The stacked products. -/
def stackDot (c : FVec Ideal S64x64 .f32) (x : FVec Ideal S32x64x128 .f32) : FVec Ideal S32x64x128 .f32 :=
  concatenate S32x64x128 0 [⟨S1x64x128, slabDot c x 0⟩, ⟨S1x64x128, slabDot c x 1⟩, ⟨S1x64x128, slabDot c x 2⟩, ⟨S1x64x128, slabDot c x 3⟩, ⟨S1x64x128, slabDot c x 4⟩, ⟨S1x64x128, slabDot c x 5⟩, ⟨S1x64x128, slabDot c x 6⟩, ⟨S1x64x128, slabDot c x 7⟩, ⟨S1x64x128, slabDot c x 8⟩, ⟨S1x64x128, slabDot c x 9⟩, ⟨S1x64x128, slabDot c x 10⟩, ⟨S1x64x128, slabDot c x 11⟩, ⟨S1x64x128, slabDot c x 12⟩, ⟨S1x64x128, slabDot c x 13⟩, ⟨S1x64x128, slabDot c x 14⟩, ⟨S1x64x128, slabDot c x 15⟩, ⟨S1x64x128, slabDot c x 16⟩, ⟨S1x64x128, slabDot c x 17⟩, ⟨S1x64x128, slabDot c x 18⟩, ⟨S1x64x128, slabDot c x 19⟩, ⟨S1x64x128, slabDot c x 20⟩, ⟨S1x64x128, slabDot c x 21⟩, ⟨S1x64x128, slabDot c x 22⟩, ⟨S1x64x128, slabDot c x 23⟩, ⟨S1x64x128, slabDot c x 24⟩, ⟨S1x64x128, slabDot c x 25⟩, ⟨S1x64x128, slabDot c x 26⟩, ⟨S1x64x128, slabDot c x 27⟩, ⟨S1x64x128, slabDot c x 28⟩, ⟨S1x64x128, slabDot c x 29⟩, ⟨S1x64x128, slabDot c x 30⟩, ⟨S1x64x128, slabDot c x 31⟩] concatenates_S1x64x128_S1x64x128_S1x64x128_S1x64x128_S1x64x128_S1x64x128_S1x64x128_S1x64x128_S1x64x128_S1x64x128_S1x64x128_S1x64x128_S1x64x128_S1x64x128_S1x64x128_S1x64x128_S1x64x128_S1x64x128_S1x64x128_S1x64x128_S1x64x128_S1x64x128_S1x64x128_S1x64x128_S1x64x128_S1x64x128_S1x64x128_S1x64x128_S1x64x128_S1x64x128_S1x64x128_S1x64x128_S32x64x128_d0

/-- The stacked negated products. -/
def stackNeg (c : FVec Ideal S64x64 .f32) (x : FVec Ideal S32x64x128 .f32) : FVec Ideal S32x64x128 .f32 :=
  concatenate S32x64x128 0 [⟨S1x64x128, slabNeg c x 0⟩, ⟨S1x64x128, slabNeg c x 1⟩, ⟨S1x64x128, slabNeg c x 2⟩, ⟨S1x64x128, slabNeg c x 3⟩, ⟨S1x64x128, slabNeg c x 4⟩, ⟨S1x64x128, slabNeg c x 5⟩, ⟨S1x64x128, slabNeg c x 6⟩, ⟨S1x64x128, slabNeg c x 7⟩, ⟨S1x64x128, slabNeg c x 8⟩, ⟨S1x64x128, slabNeg c x 9⟩, ⟨S1x64x128, slabNeg c x 10⟩, ⟨S1x64x128, slabNeg c x 11⟩, ⟨S1x64x128, slabNeg c x 12⟩, ⟨S1x64x128, slabNeg c x 13⟩, ⟨S1x64x128, slabNeg c x 14⟩, ⟨S1x64x128, slabNeg c x 15⟩, ⟨S1x64x128, slabNeg c x 16⟩, ⟨S1x64x128, slabNeg c x 17⟩, ⟨S1x64x128, slabNeg c x 18⟩, ⟨S1x64x128, slabNeg c x 19⟩, ⟨S1x64x128, slabNeg c x 20⟩, ⟨S1x64x128, slabNeg c x 21⟩, ⟨S1x64x128, slabNeg c x 22⟩, ⟨S1x64x128, slabNeg c x 23⟩, ⟨S1x64x128, slabNeg c x 24⟩, ⟨S1x64x128, slabNeg c x 25⟩, ⟨S1x64x128, slabNeg c x 26⟩, ⟨S1x64x128, slabNeg c x 27⟩, ⟨S1x64x128, slabNeg c x 28⟩, ⟨S1x64x128, slabNeg c x 29⟩, ⟨S1x64x128, slabNeg c x 30⟩, ⟨S1x64x128, slabNeg c x 31⟩] concatenates_S1x64x128_S1x64x128_S1x64x128_S1x64x128_S1x64x128_S1x64x128_S1x64x128_S1x64x128_S1x64x128_S1x64x128_S1x64x128_S1x64x128_S1x64x128_S1x64x128_S1x64x128_S1x64x128_S1x64x128_S1x64x128_S1x64x128_S1x64x128_S1x64x128_S1x64x128_S1x64x128_S1x64x128_S1x64x128_S1x64x128_S1x64x128_S1x64x128_S1x64x128_S1x64x128_S1x64x128_S1x64x128_S32x64x128_d0

/-- The stacked products at an index. -/
theorem stackDot_at (c : FVec Ideal S64x64 .f32) (x : FVec Ideal S32x64x128 .f32) (b : Fin 32) (k : Fin 64) (n : Fin 128) :
    stackDot c x (ix3 b k n) = ∑ n1 : Fin 64, c (ix2 k n1) * x (ix3 b n1 n) :=
  (stack_at (slabDot c x) b k n).trans (slabDot_at c x b k n)

/-- The stacked negated products at an index. -/
theorem stackNeg_at (c : FVec Ideal S64x64 .f32) (x : FVec Ideal S32x64x128 .f32) (b : Fin 32) (k : Fin 64) (n : Fin 128) :
    stackNeg c x (ix3 b k n) = 0 - ∑ n1 : Fin 64, c (ix2 k n1) * x (ix3 b n1 n) := by
  refine (stack_at (slabNeg c x) b k n).trans ?_
  rw [← slabDot_at]
  unfold slabNeg
  pointwise

/-- A table of 64 by 128 spread over the sequences. -/
def spread (c : FVec Ideal S64x128 .f32) : FVec Ideal S32x64x128 .f32 :=
  broadcastTo S32x64x128 (shapeCast S1x64x128 c shapeCasts_S64x128_S1x64x128) broadcasts_S1x64x128_S32x64x128

/-- The spread table at an index. -/
theorem spread_at (c : FVec Ideal S64x128 .f32) (b : Fin 32) (k : Fin 64) (n : Fin 128) : spread c (ix3 b k n) = c (ix2 k n) := by
  unfold spread
  pointwise

section Printed

variable (x0 : Vec Ideal S32x64x128 .f32) (x1 : Vec Ideal S64x64 .f32) (x2 : Vec Ideal S64x64 .f32) (x3 : Vec Ideal S64x128 .f32)
  (x4 : Vec Ideal S64x128 .f32) (x5 : Vec Ideal S64x64 .f32) (x6 : Vec Ideal S64x64 .f32) (x7 : Vec Ideal S128x256 .f32)
  (x8 : Vec Ideal S64x256 .f32) (x9 : Vec Ideal S128x128 .f32) (x10 : Vec Ideal S1x128 .f32)

theorem ld0 : View.ld x0 r0_0 = x0 := by funext j; pointwise
theorem ld1 : View.ld x1 r0_1 = x1 := by funext j; pointwise
theorem ld3 : View.ld x3 r0_2 = x3 := by funext j; pointwise
theorem ld7 : View.ld x7 r0_3 = x7 := by funext j; pointwise
theorem ld8 : View.ld x8 r0_4 = x8 := by funext j; pointwise
theorem ld9 : View.ld x9 r0_5 = x9 := by funext j; pointwise
theorem ld10 : View.ld x10 r0_6 = x10 := by
  funext j
  obtain ⟨a, b, rfl⟩ : ∃ (a : Fin 1) (b : Fin 128), j = ix2 a b := ⟨j 0, j 1, eq_ix2 j⟩
  rw [Subsingleton.elim a 0]; pointwise

/-- The block of sequences as the body reads it. -/
theorem pay207 : k0_pay207 x0 x1 x2 x3 x4 x5 x6 x7 x8 x9 x10 = x0 := by funext j; unfold k0_pay207 k0_pay2; pointwise
/-- The first-stage cosines as the body reads them. -/
theorem pay208 : k0_pay208 x0 x1 x2 x3 x4 x5 x6 x7 x8 x9 x10 = x1 := by funext j; unfold k0_pay208 k0_pay3; pointwise
/-- The first-stage sines as the body reads them. -/
theorem pay209 : k0_pay209 x0 x1 x2 x3 x4 x5 x6 x7 x8 x9 x10 = x2 := by funext j; unfold k0_pay209 k0_pay4; pointwise
/-- The twiddle cosines as the body reads them. -/
theorem pay210 : k0_pay210 x0 x1 x2 x3 x4 x5 x6 x7 x8 x9 x10 = x3 := by funext j; unfold k0_pay210 k0_pay5; pointwise
/-- The twiddle sines as the body reads them. -/
theorem pay211 : k0_pay211 x0 x1 x2 x3 x4 x5 x6 x7 x8 x9 x10 = x4 := by funext j; unfold k0_pay211 k0_pay6; pointwise
/-- The second-stage rows as the body reads them. -/
theorem pay212 : k0_pay212 x0 x1 x2 x3 x4 x5 x6 x7 x8 x9 x10 = x7 := by funext j; unfold k0_pay212 k0_pay7; pointwise
/-- The twiddle rows as the body reads them. -/
theorem pay213 : k0_pay213 x0 x1 x2 x3 x4 x5 x6 x7 x8 x9 x10 = x8 := by funext j; unfold k0_pay213 k0_pay8; pointwise
/-- The second-stage half table as the body reads it. -/
theorem pay214 : k0_pay214 x0 x1 x2 x3 x4 x5 x6 x7 x8 x9 x10 = x9 := by funext j; unfold k0_pay214 k0_pay9; pointwise

/-- The twiddled first stage, real part. -/
theorem pay273 : k0_pay273 x0 x1 x2 x3 x4 x5 x6 x7 x8 x9 x10 = addf (mulf (stackDot x1 x0) (spread x3)) (mulf (stackNeg x2 x0) (spread x4)) := by
  conv_rhs => rw [← pay207 x0 x1 x2 x3 x4 x5 x6 x7 x8 x9 x10, ← pay208 x0 x1 x2 x3 x4 x5 x6 x7 x8 x9 x10, ← pay209 x0 x1 x2 x3 x4 x5 x6 x7 x8 x9 x10, ← pay210 x0 x1 x2 x3 x4 x5 x6 x7 x8 x9 x10, ← pay211 x0 x1 x2 x3 x4 x5 x6 x7 x8 x9 x10]
  rfl

/-- The twiddled first stage, imaginary part. -/
theorem pay274 : k0_pay274 x0 x1 x2 x3 x4 x5 x6 x7 x8 x9 x10 = subf (mulf (stackNeg x2 x0) (spread x3)) (mulf (stackDot x1 x0) (spread x4)) := by
  conv_rhs => rw [← pay207 x0 x1 x2 x3 x4 x5 x6 x7 x8 x9 x10, ← pay208 x0 x1 x2 x3 x4 x5 x6 x7 x8 x9 x10, ← pay209 x0 x1 x2 x3 x4 x5 x6 x7 x8 x9 x10, ← pay210 x0 x1 x2 x3 x4 x5 x6 x7 x8 x9 x10, ← pay211 x0 x1 x2 x3 x4 x5 x6 x7 x8 x9 x10]
  rfl

/-- The twiddled first stage's real part at an index. -/
theorem pay273_at (b : Fin 32) (k : Fin 64) (n : Fin 128) : k0_pay273 x0 x1 x2 x3 x4 x5 x6 x7 x8 x9 x10 (ix3 b k n)
    = (∑ n1 : Fin 64, x1 (ix2 k n1) * x0 (ix3 b n1 n)) * x3 (ix2 k n) + (0 - ∑ n1 : Fin 64, x2 (ix2 k n1) * x0 (ix3 b n1 n)) * x4 (ix2 k n) := by
  rw [pay273, ← stackDot_at, ← stackNeg_at, ← spread_at x3 b, ← spread_at x4 b]
  rfl

/-- The twiddled first stage's imaginary part at an index. -/
theorem pay274_at (b : Fin 32) (k : Fin 64) (n : Fin 128) : k0_pay274 x0 x1 x2 x3 x4 x5 x6 x7 x8 x9 x10 (ix3 b k n)
    = (0 - ∑ n1 : Fin 64, x2 (ix2 k n1) * x0 (ix3 b n1 n)) * x3 (ix2 k n) - (∑ n1 : Fin 64, x1 (ix2 k n1) * x0 (ix3 b n1 n)) * x4 (ix2 k n) := by
  rw [pay274, ← stackNeg_at, ← stackDot_at, ← spread_at x3 b, ← spread_at x4 b]
  rfl

/-- A block's rows laid end to end times the half table, at an index. -/
theorem rows_at (y : FVec Ideal S32x64x128 .f32) (w : FVec Ideal S128x128 .f32) (b : Fin 32) (i : Fin 64) (c : Fin 128) :
    matmul dot_S2048x128_S128x128_S2048x128_1_0_0_1_n_n (some .fp32) (shapeCast S2048x128 y shapeCasts_S32x64x128_S2048x128) w
      (constant S2048x128 .f32 0x00000000#32) (ix2 ⟨b.val * 64 + i.val, by omega⟩ c) = ∑ n : Fin 128, y (ix3 b i n) * w (ix2 n c) := by
  pointwise

/-- The twiddled real part's rows times the half table, at an index. -/
theorem pay275_at (b : Fin 32) (i : Fin 64) (c : Fin 128) : k0_pay275 x0 x1 x2 x3 x4 x5 x6 x7 x8 x9 x10 (ix2 ⟨b.val * 64 + i.val, by omega⟩ c)
    = ∑ n : Fin 128, k0_pay273 x0 x1 x2 x3 x4 x5 x6 x7 x8 x9 x10 (ix3 b i n) * x9 (ix2 n c) := by
  rw [← rows_at]
  show matmul (F := Ideal) (φ₁ := .f32) (φ₂ := .f32) dot_S2048x128_S128x128_S2048x128_1_0_0_1_n_n (some .fp32) (shapeCast (s := S32x64x128) S2048x128 (k0_pay273 x0 x1 x2 x3 x4 x5 x6 x7 x8 x9 x10) _) (k0_pay214 x0 x1 x2 x3 x4 x5 x6 x7 x8 x9 x10) _ _ = _
  rw [pay214]

/-- The twiddled imaginary part's rows times the half table, at an index. -/
theorem pay276_at (b : Fin 32) (i : Fin 64) (c : Fin 128) : k0_pay276 x0 x1 x2 x3 x4 x5 x6 x7 x8 x9 x10 (ix2 ⟨b.val * 64 + i.val, by omega⟩ c)
    = ∑ n : Fin 128, k0_pay274 x0 x1 x2 x3 x4 x5 x6 x7 x8 x9 x10 (ix3 b i n) * x9 (ix2 n c) := by
  rw [← rows_at]
  show matmul (F := Ideal) (φ₁ := .f32) (φ₂ := .f32) dot_S2048x128_S128x128_S2048x128_1_0_0_1_n_n (some .fp32) (shapeCast (s := S32x64x128) S2048x128 (k0_pay274 x0 x1 x2 x3 x4 x5 x6 x7 x8 x9 x10) _) (k0_pay214 x0 x1 x2 x3 x4 x5 x6 x7 x8 x9 x10) _ _ = _
  rw [pay214]

/-- The second stage's real part at an index. -/
theorem pay278_at (b : Fin 32) (i j : Fin 64) : k0_pay278 x0 x1 x2 x3 x4 x5 x6 x7 x8 x9 x10 (ix3 b i j)
    = (∑ n : Fin 128, k0_pay273 x0 x1 x2 x3 x4 x5 x6 x7 x8 x9 x10 (ix3 b i n) * x9 (ix2 n ⟨j.val, by omega⟩)) + ∑ n : Fin 128, k0_pay274 x0 x1 x2 x3 x4 x5 x6 x7 x8 x9 x10 (ix3 b i n) * x9 (ix2 n ⟨64 + j.val, by omega⟩) := by
  rw [← pay275_at, ← pay276_at]
  show shapeCast S32x64x64 (addf (extractStridedSlice (s := S2048x128) S2048x64 ![0, 0] (k0_pay275 x0 x1 x2 x3 x4 x5 x6 x7 x8 x9 x10) _) (extractStridedSlice (s := S2048x128) S2048x64 ![0, 64] (k0_pay276 x0 x1 x2 x3 x4 x5 x6 x7 x8 x9 x10) _)) _ _ = _
  pointwise

/-- The second stage's imaginary part at an index. -/
theorem pay279_at (b : Fin 32) (i j : Fin 64) : k0_pay279 x0 x1 x2 x3 x4 x5 x6 x7 x8 x9 x10 (ix3 b i j)
    = (∑ n : Fin 128, k0_pay274 x0 x1 x2 x3 x4 x5 x6 x7 x8 x9 x10 (ix3 b i n) * x9 (ix2 n ⟨j.val, by omega⟩)) - ∑ n : Fin 128, k0_pay273 x0 x1 x2 x3 x4 x5 x6 x7 x8 x9 x10 (ix3 b i n) * x9 (ix2 n ⟨64 + j.val, by omega⟩) := by
  rw [← pay276_at, ← pay275_at]
  show shapeCast S32x64x64 (subf (extractStridedSlice (s := S2048x128) S2048x64 ![0, 0] (k0_pay276 x0 x1 x2 x3 x4 x5 x6 x7 x8 x9 x10) _) (extractStridedSlice (s := S2048x128) S2048x64 ![0, 64] (k0_pay275 x0 x1 x2 x3 x4 x5 x6 x7 x8 x9 x10) _)) _ _ = _
  pointwise

/-- The Nyquist bin's real part. -/
theorem pay280_at (b : Fin 32) : k0_pay280 x0 x1 x2 x3 x4 x5 x6 x7 x8 x9 x10 (ix2 b 0) = ∑ n : Fin 128, k0_pay273 x0 x1 x2 x3 x4 x5 x6 x7 x8 x9 x10 (ix3 b 0 n) * x10 (ix2 0 n) := by
  unfold k0_pay280 k0_pay112
  rw [ld10]
  pointwise

/-- The Nyquist bin's imaginary part. -/
theorem pay281_at (b : Fin 32) : k0_pay281 x0 x1 x2 x3 x4 x5 x6 x7 x8 x9 x10 (ix2 b 0) = ∑ n : Fin 128, k0_pay274 x0 x1 x2 x3 x4 x5 x6 x7 x8 x9 x10 (ix3 b 0 n) * x10 (ix2 0 n) := by
  unfold k0_pay281 k0_pay113
  rw [ld10]
  pointwise

/-- The Nyquist bin's squared magnitude. -/
theorem pay282_at (b : Fin 32) : k0_pay282 x0 x1 x2 x3 x4 x5 x6 x7 x8 x9 x10 (ix3 b 0 0)
    = k0_pay280 x0 x1 x2 x3 x4 x5 x6 x7 x8 x9 x10 (ix2 b 0) * k0_pay280 x0 x1 x2 x3 x4 x5 x6 x7 x8 x9 x10 (ix2 b 0) + k0_pay281 x0 x1 x2 x3 x4 x5 x6 x7 x8 x9 x10 (ix2 b 0) * k0_pay281 x0 x1 x2 x3 x4 x5 x6 x7 x8 x9 x10 (ix2 b 0) := by
  show shapeCast S32x1x1 (addf (mulf (k0_pay280 x0 x1 x2 x3 x4 x5 x6 x7 x8 x9 x10) (k0_pay280 x0 x1 x2 x3 x4 x5 x6 x7 x8 x9 x10)) (mulf (k0_pay281 x0 x1 x2 x3 x4 x5 x6 x7 x8 x9 x10) (k0_pay281 x0 x1 x2 x3 x4 x5 x6 x7 x8 x9 x10))) _ _ = _
  pointwise

/-- The first magnitudes: `-1` where the bin is not valid and the squared magnitude elsewhere. -/
theorem pay283_at (b : Fin 32) (i j : Fin 64) : k0_pay283 x0 x1 x2 x3 x4 x5 x6 x7 x8 x9 x10 (ix3 b i j)
    = if 0 < x6 (ix2 i j) then
        k0_pay278 x0 x1 x2 x3 x4 x5 x6 x7 x8 x9 x10 (ix3 b i j) * k0_pay278 x0 x1 x2 x3 x4 x5 x6 x7 x8 x9 x10 (ix3 b i j) + k0_pay279 x0 x1 x2 x3 x4 x5 x6 x7 x8 x9 x10 (ix3 b i j) * k0_pay279 x0 x1 x2 x3 x4 x5 x6 x7 x8 x9 x10 (ix3 b i j)
        else (Ideal.ofBits .f32 0xBF800000#32) := by
  unfold k0_pay283 k0_pay115
  rw [ld1]
  pointwise
  rfl

end Printed

end Cert.KernelIdeal.Rounds

end
-- ==== Proof.Sem.lean ====
/- The selection round read at one sequence. -/
module

public import proofs.«01_k».proof.Proof.Round
public import proofs.«01_k».proof.Proof.Consts
public import proofs.«01_k».proof.Proof.Trig

@[expose] public section

set_option maxRecDepth 16384

noncomputable section

namespace Cert.KernelIdeal.Rounds

open Cert.Trig Idealize.ShloMosaic Idealize.ShloMosaic.Pointwise Cert.KernelIdeal Cert.KernelIdeal.Gen

/-- The number of a grid bin. -/
abbrev bin (i j : Fin 64) : ℕ := i.val + 64 * j.val

/-- `f` is the next pick: the strictly greatest of `p` over `1 … 4096` away from the set `S` of earlier picks. -/
structure Pick (p : ℕ → ℝ) (S : Finset ℕ) (f : ℕ) : Prop where
  /-- The pick is new. -/
  fresh : f ∉ S
  /-- The pick is not the zero frequency. -/
  lo : 1 ≤ f
  /-- The pick is a bin of the half spectrum. -/
  hi : f ≤ 4096
  /-- Its magnitude is not negative. -/
  nonneg : 0 ≤ p f
  /-- Every other bin left is strictly less. -/
  lt : ∀ g, 1 ≤ g → g ≤ 4096 → g ∉ S → g ≠ f → p g < p f

/-- What is left of the magnitudes `p` with the picks `S` struck out. -/
def left (p : ℕ → ℝ) (S : Finset ℕ) (g : ℕ) : ℝ := if g = 0 ∨ g ∈ S then -1 else p g

/-- The state of sequence `b` after the picks `S` from the magnitudes `p`. -/
structure St (p : ℕ → ℝ) (S : Finset ℕ) (b : Fin 32) (s : FVec Ideal S32x64x64 .f32 × IVec S32x1x1 1) : Prop where
  /-- The grid magnitudes. -/
  mag : ∀ i j, s.1 (ix3 b i j) = (left p S (bin i j) : EReal)
  /-- The Nyquist bin's state. -/
  taken : s.2 (ix3 b 0 0) = BitVec.ofBool (decide (4096 ∈ S))

section

variable {p : ℕ → ℝ} {S : Finset ℕ} {f : ℕ} {b : Fin 32} {s : FVec Ideal S32x64x64 .f32 × IVec S32x1x1 1}
  {ny : FVec Ideal S32x1x1 .f32}

/-- A choice on a false bit. -/
theorem select_false (x y : EReal) : Scalar.select (BitVec.ofBool false) x y = y := rfl

/-- What is left of the pick is its magnitude. -/
theorem Pick.left_self (h : Pick p S f) : left p S f = p f := by
  unfold left
  rw [if_neg]
  have := h.lo; have := h.fresh
  rintro (h0 | h0)
  · omega
  · exact h.fresh h0

/-- What is left of any other bin is less. -/
theorem Pick.left_lt (h : Pick p S f) (g : ℕ) (hg : g ≤ 4096) (hne : g ≠ f) : left p S g < p f := by
  unfold left
  split_ifs with h0
  · linarith [h.nonneg]
  · exact h.lt g (by omega) hg (by tauto) hne

/-- Striking out the pick. -/
theorem left_insert (h : Pick p S f) (g : ℕ) : left p (insert f S) g = if g = f then -1 else left p S g := by
  unfold left
  by_cases h1 : g = f <;> simp [h1]

/-- The greatest remaining grid magnitude is below `c` when every one is. -/
theorem max_lt (hs : St p S b s) (c : ℝ) (hc : ∀ i j : Fin 64, left p S (bin i j) < c) : rMax s.1 (ix3 b 0 0) < (c : EReal) := by
  have h : rMax s.1 (ix3 b 0 0) = Finset.fold max (Ideal.ofBits FTy.f32 0xFF800000#32) (fun x : Fin 64 × Fin 64 => s.1 (ix3 b x.1 x.2)) Finset.univ := by
    pointwise [rMax]
  rw [h, Finset.fold_max_lt, Consts.neg_inf]
  refine ⟨EReal.bot_lt_coe c, fun x _ => ?_⟩
  rw [hs.mag]
  exact_mod_cast hc x.1 x.2

/-- The greatest remaining grid magnitude is the pick's when the pick is on the grid. -/
theorem max_eq (hs : St p S b s) (hf : Pick p S f) (hlt : f < 4096) : rMax s.1 (ix3 b 0 0) = (p f : EReal) := by
  have h : rMax s.1 (ix3 b 0 0) = Finset.fold max (Ideal.ofBits FTy.f32 0xFF800000#32) (fun x : Fin 64 × Fin 64 => s.1 (ix3 b x.1 x.2)) Finset.univ := by
    pointwise [rMax]
  rw [h, Consts.neg_inf]
  apply le_antisymm
  · rw [Finset.fold_max_le]
    refine ⟨bot_le, fun x _ => ?_⟩
    rw [hs.mag]
    by_cases h1 : bin x.1 x.2 = f
    · rw [h1, hf.left_self]
    · exact_mod_cast (hf.left_lt _ (by unfold bin; omega) h1).le
  · rw [Finset.le_fold_max]
    right
    refine ⟨(⟨f % 64, by omega⟩, ⟨f / 64, by omega⟩), Finset.mem_univ _, ?_⟩
    rw [hs.mag]
    have : bin ⟨f % 64, by omega⟩ ⟨f / 64, by omega⟩ = f := by unfold bin; simp only; omega
    show (p f : EReal) ≤ (left p S (bin ⟨f % 64, by omega⟩ ⟨f / 64, by omega⟩) : EReal)
    rw [this, hf.left_self]

/-- The Nyquist magnitude as the round reads it. -/
theorem eff_eq (hs : St p S b s) (hn : ny (ix3 b 0 0) = (p 4096 : EReal)) : rEff ny s.2 (ix3 b 0 0) = (left p S 4096 : EReal) := by
  have h : rEff ny s.2 (ix3 b 0 0) = Scalar.select (s.2 (ix3 b 0 0)) (Ideal.ofBits FTy.f32 0xBF800000#32) (ny (ix3 b 0 0)) := by
    pointwise [rEff]
  rw [h, hs.taken, hn, Consts.neg_one]
  by_cases h0 : 4096 ∈ S <;> simp [h0, left, Scalar.select]

/-- The round takes the Nyquist bin exactly when it is the pick. -/
theorem is_eq (hs : St p S b s) (hn : ny (ix3 b 0 0) = (p 4096 : EReal)) (hf : Pick p S f) :
    rIs ny s.1 s.2 (ix3 b 0 0) = BitVec.ofBool (decide (f = 4096)) := by
  have h : rIs ny s.1 s.2 (ix3 b 0 0) = BitVec.ofBool (decide (rMax s.1 (ix3 b 0 0) < rEff ny s.2 (ix3 b 0 0))) := by
    pointwise [rIs]
  rw [h, eff_eq hs hn]
  congr 2
  apply propext
  by_cases h0 : f = 4096
  · refine ⟨fun _ => h0, fun _ => ?_⟩
    subst h0
    rw [hf.left_self]
    exact max_lt hs _ fun i j => hf.left_lt _ (by unfold bin; omega) (by unfold bin; omega)
  · refine ⟨fun h1 => ?_, fun h1 => absurd h1 h0⟩
    rw [max_eq hs hf (by have := hf.hi; omega)] at h1
    have := hf.left_lt 4096 le_rfl (Ne.symm h0)
    exact absurd h1 (not_lt.2 (by exact_mod_cast this.le))

/-- The round's selection is one at the pick and zero elsewhere. -/
theorem sel_eq (hs : St p S b s) (hn : ny (ix3 b 0 0) = (p 4096 : EReal)) (hf : Pick p S f) (i j : Fin 64) :
    rSel ny s.1 s.2 (ix3 b i j) = ((if bin i j = f then (1 : ℝ) else 0 : ℝ) : EReal) := by
  have h : rSel ny s.1 s.2 (ix3 b i j) = FloatOps.sitofp FTy.f32 (BitVec.setWidth 32 (BitVec.ofBool (decide (s.1 (ix3 b i j)
      = Scalar.select (rIs ny s.1 s.2 (ix3 b 0 0)) (rEff ny s.2 (ix3 b 0 0)) (rMax s.1 (ix3 b 0 0)))))) := by
    pointwise [rSel, rEq]
  have hm : Scalar.select (rIs ny s.1 s.2 (ix3 b 0 0)) (rEff ny s.2 (ix3 b 0 0)) (rMax s.1 (ix3 b 0 0)) = (p f : EReal) := by
    rw [is_eq hs hn hf]
    by_cases h0 : f = 4096
    · rw [eff_eq hs hn]
      simp only [h0, decide_true]
      subst h0
      show (left p S 4096 : EReal) = _
      rw [hf.left_self]
    · simp only [h0, decide_false]
      rw [select_false]
      exact max_eq hs hf (by have := hf.hi; omega)
  rw [h, hm, hs.mag, Consts.bit_of]
  congr 2
  apply propext
  by_cases h1 : bin i j = f
  · simp only [h1, hf.left_self]
  · have := hf.left_lt (bin i j) (by unfold bin; omega) h1
    simp only [h1, iff_false]
    exact_mod_cast this.ne

/-- The round's Nyquist flag. -/
theorem flag_eq (hs : St p S b s) (hn : ny (ix3 b 0 0) = (p 4096 : EReal)) (hf : Pick p S f) :
    rFlag ny s.1 s.2 (ix3 b 0 0) = ((if f = 4096 then (1 : ℝ) else 0 : ℝ) : EReal) := by
  have h : rFlag ny s.1 s.2 (ix3 b 0 0) = FloatOps.sitofp FTy.f32 (BitVec.setWidth 32 (rIs ny s.1 s.2 (ix3 b 0 0))) := by
    pointwise [rFlag]
  rw [h, is_eq hs hn hf, Consts.bit_of]

/-- The next state. -/
theorem St.next (hs : St p S b s) (hn : ny (ix3 b 0 0) = (p 4096 : EReal)) (hf : Pick p S f) :
    St p (insert f S) b (rStrike s.1 (rSel ny s.1 s.2), rTaken ny s.1 s.2) where
  mag i j := by
    have h : rStrike s.1 (rSel ny s.1 s.2) (ix3 b i j)
        = if 0 < rSel ny s.1 s.2 (ix3 b i j) then Ideal.ofBits FTy.f32 0xBF800000#32 else s.1 (ix3 b i j) := by
      pointwise [rStrike]
    show rStrike s.1 (rSel ny s.1 s.2) (ix3 b i j) = _
    rw [h, sel_eq hs hn hf, Consts.neg_one, hs.mag, left_insert hf]
    by_cases h1 : bin i j = f <;> simp [h1]
  taken := by
    have h : rTaken ny s.1 s.2 (ix3 b 0 0) = IntOp.ori (s.2 (ix3 b 0 0)) (rIs ny s.1 s.2 (ix3 b 0 0)) := by
      pointwise [rTaken]
    show rTaken ny s.1 s.2 (ix3 b 0 0) = _
    rw [h, is_eq hs hn hf, hs.taken]
    have h2 : 4096 ∈ insert f S ↔ (f = 4096 ∨ 4096 ∈ S) := by rw [Finset.mem_insert, eq_comm]
    have h3 : decide (4096 ∈ insert f S) = (decide (4096 ∈ S) || decide (f = 4096)) := by
      rw [← Bool.decide_or]; exact decide_eq_decide.2 (h2.trans or_comm)
    rw [h3]
    cases decide (4096 ∈ S) <;> cases decide (f = 4096) <;> rfl

/-- A sum over the grid with the selection's weights, and the Nyquist bin's share. -/
theorem sum_sel (f : ℕ) (hf : f ≤ 4096) (h : ℕ → ℝ) :
    (∑ x : Fin 64, ∑ y : Fin 64, (if bin x y = f then (1 : ℝ) else 0) * h (bin x y)) + (if f = 4096 then (1 : ℝ) else 0) * h 4096 = h f := by
  by_cases h0 : f = 4096
  · subst h0
    rw [Finset.sum_eq_zero, if_pos rfl, one_mul, zero_add]
    intro x _
    refine Finset.sum_eq_zero fun y _ => ?_
    rw [if_neg (by unfold bin; omega), zero_mul]
  · rw [if_neg h0, zero_mul, _root_.add_zero, Finset.sum_eq_single (⟨f % 64, by omega⟩ : Fin 64), Finset.sum_eq_single (⟨f / 64, by omega⟩ : Fin 64)]
    · have : bin ⟨f % 64, by omega⟩ ⟨f / 64, by omega⟩ = f := by unfold bin; simp only; omega
      rw [this, if_pos rfl, one_mul]
    · intro y _ hy
      rw [if_neg, zero_mul]
      intro h1
      exact hy (Fin.ext (by unfold bin at h1; simp only at h1 ⊢; omega))
    · intro h1; exact absurd (Finset.mem_univ _) h1
    · intro x _ hx
      refine Finset.sum_eq_zero fun y _ => ?_
      rw [if_neg, zero_mul]
      intro h1
      exact hx (Fin.ext (by unfold bin at h1; simp only at h1 ⊢; omega))
    · intro h1; exact absurd (Finset.mem_univ _) h1

/-- The selected coefficient is the pick's. -/
theorem coef_eq (hf : f ≤ 4096) (h : ℕ → ℝ) (z : FVec Ideal S32x64x64 .f32) (n : FVec Ideal S32x1 .f32) (sel : FVec Ideal S32x64x64 .f32)
    (fl : FVec Ideal S32x1x1 .f32) (hz : ∀ i j, z (ix3 b i j) = (h (bin i j) : EReal)) (hn : n (ix2 b 0) = (h 4096 : EReal))
    (hs : ∀ i j, sel (ix3 b i j) = ((if bin i j = f then (1 : ℝ) else 0 : ℝ) : EReal)) (hfl : fl (ix3 b 0 0) = ((if f = 4096 then (1 : ℝ) else 0 : ℝ) : EReal)) :
    rCoef z n sel fl (ix3 b 0 0) = (h f : EReal) := by
  have e : rCoef z n sel fl (ix3 b 0 0) = (∑ x : Fin 64, ∑ y : Fin 64, sel (ix3 b x y) * z (ix3 b x y)) + fl (ix3 b 0 0) * n (ix2 b 0) := by
    pointwise [rCoef, rSum]
  rw [e]
  simp only [hz, hn, hs, hfl, ← EReal.coe_mul, ← Consts.coe_sum, ← EReal.coe_add]
  rw [sum_sel f hf h]

/-- The selected frequency is the pick. -/
theorem freq_eq (hf : f ≤ 4096) (fg : FVec Ideal S64x64 .f32) (sel : FVec Ideal S32x64x64 .f32)
    (fl : FVec Ideal S32x1x1 .f32) (hz : ∀ i j, fg (ix2 i j) = ((bin i j : ℝ) : EReal))
    (hs : ∀ i j, sel (ix3 b i j) = ((if bin i j = f then (1 : ℝ) else 0 : ℝ) : EReal)) (hfl : fl (ix3 b 0 0) = ((if f = 4096 then (1 : ℝ) else 0 : ℝ) : EReal)) :
    rFreq fg sel fl (ix3 b 0 0) = ((f : ℝ) : EReal) := by
  have e : rFreq fg sel fl (ix3 b 0 0) = (∑ x : Fin 64, ∑ y : Fin 64, sel (ix3 b x y) * fg (ix2 x y)) + fl (ix3 b 0 0) * Ideal.ofBits FTy.f32 0x45800000#32 := by
    pointwise [rFreq, rSum]
  rw [e]
  simp only [hz, Consts.nyq, hs, hfl, ← EReal.coe_mul, ← Consts.coe_sum, ← EReal.coe_add]
  have := sum_sel f hf (fun n => (n : ℝ))
  rw [EReal.coe_eq_coe_iff]
  exact_mod_cast this

/-- The quotient of the pick by 64. -/
theorem hi_eq (fr : FVec Ideal S32x1x1 .f32) (hfr : fr (ix3 b 0 0) = ((f : ℝ) : EReal)) : rHi fr (ix3 b 0 0) = (((f / 64 : ℕ) : ℝ) : EReal) := by
  have e : rHi fr (ix3 b 0 0) = Ideal.liftRound Int.floor (fr (ix3 b 0 0) * Ideal.ofBits FTy.f32 0x3C800000#32) := by
    pointwise [rHi]
  rw [e, hfr, Consts.inv_rad, ← EReal.coe_mul]
  show ((⌊(f : ℝ) * (1 / 64)⌋ : ℝ) : EReal) = _
  have : ⌊(f : ℝ) * (1 / 64)⌋ = ((f / 64 : ℕ) : ℤ) := by
    rw [Int.floor_eq_iff]
    have h1 : 64 * (f / 64) ≤ f := Nat.mul_div_le f 64
    have h2 : f < 64 * (f / 64) + 64 := by omega
    generalize f / 64 = q at h1 h2 ⊢
    have h1' : (64 : ℝ) * (q : ℝ) ≤ f := by exact_mod_cast h1
    have h2' : (f : ℝ) < 64 * (q : ℝ) + 64 := by exact_mod_cast h2
    rw [Int.cast_natCast]
    constructor <;> linarith
  rw [this, Int.cast_natCast]

/-- The remainder of the pick by 64. -/
theorem lo_eq (fr : FVec Ideal S32x1x1 .f32) (hfr : fr (ix3 b 0 0) = ((f : ℝ) : EReal)) : rLo fr (ix3 b 0 0) = (((f % 64 : ℕ) : ℝ) : EReal) := by
  have e : rLo fr (ix3 b 0 0) = fr (ix3 b 0 0) - Ideal.ofBits FTy.f32 0x42800000#32 * rHi fr (ix3 b 0 0) := by
    pointwise [rLo]
  rw [e, hi_eq fr hfr, hfr, Consts.rad, ← EReal.coe_mul, ← EReal.coe_sub]
  have : (f : ℝ) = ((f % 64 : ℕ) : ℝ) + 64 * ((f / 64 : ℕ) : ℝ) := by exact_mod_cast (Nat.mod_add_div f 64).symm
  rw [EReal.coe_eq_coe_iff]; linarith

/-- The weight of a bin in the inverse transform. -/
def wt (f : ℕ) : ℝ := (if f = 4096 then 1 else 2) * (1 / 8192)

/-- The scale of the pick. -/
theorem scale_eq (fr : FVec Ideal S32x1x1 .f32) (hfr : fr (ix3 b 0 0) = ((f : ℝ) : EReal)) : rScale fr (ix2 b 0) = (wt f : EReal) := by
  have e : rScale fr (ix2 b 0) = (if fr (ix3 b 0 0) = Ideal.ofBits FTy.f32 0x45800000#32 then 1 else Ideal.ofBits FTy.f32 0x40000000#32) * Ideal.ofBits FTy.f32 0x39000000#32 := by
    pointwise [rScale]
  rw [e, hfr, Consts.nyq, Consts.two, Consts.inv_len, wt, EReal.coe_mul]
  congr 1
  by_cases h : f = 4096
  · subst h; simp
  · rw [if_neg h, if_neg]
    intro h1
    rw [EReal.coe_eq_coe_iff] at h1
    exact h (by exact_mod_cast h1)

/-- Two small words agree exactly when their numbers do. -/
theorem word_eq (m n : ℕ) (hm : m < 8192) (hn : n < 8192) :
    IntOp.cmpi .eq (BitVec.ofNat 32 m) (BitVec.ofNat 32 n) = BitVec.ofBool (decide (m = n)) := by
  show BitVec.ofBool (BitVec.ofNat 32 m == BitVec.ofNat 32 n) = _
  congr 1
  rw [Bool.eq_iff_iff, beq_iff_eq, decide_eq_true_iff]
  refine ⟨fun h => ?_, fun h => by rw [h]⟩
  have := congrArg BitVec.toNat h
  rw [BitVec.toNat_ofNat, BitVec.toNat_ofNat] at this
  omega

/-- The one-hot row of the remainder. -/
theorem row_eq (fr : FVec Ideal S32x1x1 .f32) (hfr : fr (ix3 b 0 0) = ((f : ℝ) : EReal)) (i : Fin 64) :
    rRow fr (ix2 b i) = ((if i.val = f % 64 then (1 : ℝ) else 0 : ℝ) : EReal) := by
  have e : rRow fr (ix2 b i) = FloatOps.sitofp FTy.f32 (BitVec.setWidth 32 (IntOp.cmpi .eq (BitVec.ofNat 32 i.val) (FloatOps.fptosi 32 (rLo fr (ix3 b 0 0))))) := by
    pointwise [rRow]
  rw [e, lo_eq fr hfr, Consts.word_of _ (by omega), word_eq _ _ (by omega) (by omega), Consts.bit_of]

/-- The one-hot row of the quotient. -/
theorem col_eq (hf : f ≤ 4096) (fr : FVec Ideal S32x1x1 .f32) (hfr : fr (ix3 b 0 0) = ((f : ℝ) : EReal)) (i : Fin 128) :
    rCol fr (ix2 b i) = ((if i.val = f / 64 then (1 : ℝ) else 0 : ℝ) : EReal) := by
  have e : rCol fr (ix2 b i) = FloatOps.sitofp FTy.f32 (BitVec.setWidth 32 (IntOp.cmpi .eq (BitVec.ofNat 32 i.val) (FloatOps.fptosi 32 (rHi fr (ix3 b 0 0))))) := by
    pointwise [rCol]
  rw [e, hi_eq fr hfr, Consts.word_of _ (by omega), word_eq _ _ (by omega) (by omega), Consts.bit_of]

/-- A one-hot row picks a row of a table. -/
theorem pick_row {n : ℕ} (k : ℕ) (hk : k < n) (r g : Fin n → EReal) (h : ℕ → ℝ) (hr : ∀ i, r i = ((if i.val = k then (1 : ℝ) else 0 : ℝ) : EReal))
    (hg : ∀ i, g i = (h i.val : EReal)) : ∑ i, r i * g i = (h k : EReal) := by
  rw [Finset.sum_eq_single ⟨k, hk⟩]
  · rw [hr, hg, if_pos rfl, EReal.coe_one, one_mul]
  · intro i _ hi
    rw [hr, if_neg (fun h1 => hi (Fin.ext h1)), EReal.coe_zero, zero_mul]
  · intro h1; exact absurd (Finset.mem_univ _) h1

/-- The season with the pick's wave added. -/
theorem add_eq (hf : f ≤ 4096) (c1 s1 : FVec Ideal S64x64 .f32) (c2s2 : FVec Ideal S128x256 .f32) (ctst : FVec Ideal S64x256 .f32)
    (season : FVec Ideal S32x64x128 .f32) (x y fr : FVec Ideal S32x1x1 .f32) (i : Fin 64) (j : Fin 128) (se u v : ℝ)
    (hc1 : ∀ k n : Fin 64, c1 (ix2 k n) = (Real.cos (ang1 k n) : EReal)) (hs1 : ∀ k n : Fin 64, s1 (ix2 k n) = (Real.sin (ang1 k n) : EReal))
    (hct : ∀ (k : Fin 64) (n : Fin 128), ctst (ix2 k ⟨n.val, by omega⟩) = (Real.cos (ang k n) : EReal))
    (hst : ∀ (k : Fin 64) (n : Fin 128), ctst (ix2 k ⟨128 + n.val, by omega⟩) = (Real.sin (ang k n) : EReal))
    (hc2 : ∀ k n : Fin 128, c2s2 (ix2 k ⟨n.val, by omega⟩) = (Real.cos (ang2 k n) : EReal))
    (hs2 : ∀ k n : Fin 128, c2s2 (ix2 k ⟨128 + n.val, by omega⟩) = (Real.sin (ang2 k n) : EReal))
    (hse : season (ix3 b i j) = (se : EReal)) (hx : x (ix3 b 0 0) = (u : EReal)) (hy : y (ix3 b 0 0) = (v : EReal))
    (hfr : fr (ix3 b 0 0) = ((f : ℝ) : EReal)) :
    rAdd c1 s1 c2s2 ctst season x y fr (ix3 b i j)
      = ((se + wt f * (u * Real.cos (ang f (128 * i + j)) - v * Real.sin (ang f (128 * i + j))) : ℝ) : EReal) := by
  have e : rAdd c1 s1 c2s2 ctst season x y fr (ix3 b i j) = season (ix3 b i j) +
        rScale fr (ix2 b 0) * (x (ix3 b 0 0) * (∑ k : Fin 64, rRow fr (ix2 b k) * c1 (ix2 k i)) - y (ix3 b 0 0) * (∑ k : Fin 64, rRow fr (ix2 b k) * s1 (ix2 k i))) *
          ((∑ k : Fin 64, rRow fr (ix2 b k) * ctst (ix2 k ⟨j.val, by omega⟩)) * (∑ k : Fin 128, rCol fr (ix2 b k) * c2s2 (ix2 k ⟨j.val, by omega⟩)) -
            (∑ k : Fin 64, rRow fr (ix2 b k) * ctst (ix2 k ⟨128 + j.val, by omega⟩)) * (∑ k : Fin 128, rCol fr (ix2 b k) * c2s2 (ix2 k ⟨128 + j.val, by omega⟩))) -
      rScale fr (ix2 b 0) * (x (ix3 b 0 0) * (∑ k : Fin 64, rRow fr (ix2 b k) * s1 (ix2 k i)) + y (ix3 b 0 0) * (∑ k : Fin 64, rRow fr (ix2 b k) * c1 (ix2 k i))) *
        ((∑ k : Fin 64, rRow fr (ix2 b k) * ctst (ix2 k ⟨j.val, by omega⟩)) * (∑ k : Fin 128, rCol fr (ix2 b k) * c2s2 (ix2 k ⟨128 + j.val, by omega⟩)) +
          (∑ k : Fin 64, rRow fr (ix2 b k) * ctst (ix2 k ⟨128 + j.val, by omega⟩)) * (∑ k : Fin 128, rCol fr (ix2 b k) * c2s2 (ix2 k ⟨j.val, by omega⟩))) := by
    pointwise [rAdd, rOuter, rUre, rUim, rB, rFlat, rU, rT, rC, rL, rR, rWre, rWim]
  have hr := row_eq fr hfr
  have hc := col_eq hf fr hfr
  rw [e, hse, hx, hy, scale_eq fr hfr,
    pick_row (f % 64) (by omega) _ _ (fun k => Real.cos (ang1 k i)) hr (fun k => hc1 k i),
    pick_row (f % 64) (by omega) _ _ (fun k => Real.sin (ang1 k i)) hr (fun k => hs1 k i),
    pick_row (f % 64) (by omega) _ _ (fun k => Real.cos (ang k j)) hr (fun k => hct k j),
    pick_row (f % 64) (by omega) _ _ (fun k => Real.sin (ang k j)) hr (fun k => hst k j),
    pick_row (f / 64) (by omega) _ _ (fun k => Real.cos (ang2 k j)) hc (fun k => hc2 k j),
    pick_row (f / 64) (by omega) _ _ (fun k => Real.sin (ang2 k j)) hc (fun k => hs2 k j)]
  simp only [← EReal.coe_mul, ← EReal.coe_sub, ← EReal.coe_add]
  rw [EReal.coe_eq_coe_iff, ← wave_eq]
  ring

end

end Cert.KernelIdeal.Rounds
-- ==== Proof.Block.lean ====
/- One block of the kernel at one sequence: five picked waves. -/
module

public import proofs.«01_k».proof.Proof.Front
public import proofs.«01_k».proof.Proof.Sem

@[expose] public section

set_option maxRecDepth 16384

noncomputable section

namespace Cert.KernelIdeal.Rounds

open Cert.Trig Idealize.ShloMosaic Idealize.ShloMosaic.Pointwise Cert.KernelIdeal Cert.KernelIdeal.Gen

/-- The kernel's ten tables hold what they should. -/
structure Tables (x1 : Vec Ideal S64x64 .f32) (x2 : Vec Ideal S64x64 .f32) (x3 : Vec Ideal S64x128 .f32)
    (x4 : Vec Ideal S64x128 .f32) (x5 : Vec Ideal S64x64 .f32) (x6 : Vec Ideal S64x64 .f32) (x7 : Vec Ideal S128x256 .f32)
    (x8 : Vec Ideal S64x256 .f32) (x9 : Vec Ideal S128x128 .f32) (x10 : Vec Ideal S1x128 .f32) : Prop where
  /-- First-stage cosines. -/
  c1 : ∀ k n : Fin 64, x1 (ix2 k n) = (Real.cos (ang1 k n) : EReal)
  /-- First-stage sines. -/
  s1 : ∀ k n : Fin 64, x2 (ix2 k n) = (Real.sin (ang1 k n) : EReal)
  /-- Twiddle cosines. -/
  ct : ∀ (k : Fin 64) (n : Fin 128), x3 (ix2 k n) = (Real.cos (ang k n) : EReal)
  /-- Twiddle sines. -/
  st : ∀ (k : Fin 64) (n : Fin 128), x4 (ix2 k n) = (Real.sin (ang k n) : EReal)
  /-- The bins' numbers. -/
  fg : ∀ i j : Fin 64, x5 (ix2 i j) = ((bin i j : ℝ) : EReal)
  /-- The bins but the zero frequency are valid. -/
  valid : ∀ i j : Fin 64, 0 < x6 (ix2 i j) ↔ bin i j ≠ 0
  /-- Second-stage cosines. -/
  c2 : ∀ k n : Fin 128, x7 (ix2 k ⟨n.val, by omega⟩) = (Real.cos (ang2 k n) : EReal)
  /-- Second-stage sines. -/
  s2 : ∀ k n : Fin 128, x7 (ix2 k ⟨128 + n.val, by omega⟩) = (Real.sin (ang2 k n) : EReal)
  /-- Twiddle cosines, joined table. -/
  tc : ∀ (k : Fin 64) (n : Fin 128), x8 (ix2 k ⟨n.val, by omega⟩) = (Real.cos (ang k n) : EReal)
  /-- Twiddle sines, joined table. -/
  ts : ∀ (k : Fin 64) (n : Fin 128), x8 (ix2 k ⟨128 + n.val, by omega⟩) = (Real.sin (ang k n) : EReal)
  /-- Second-stage cosines of the half spectrum. -/
  hc : ∀ (n : Fin 128) (j : Fin 64), x9 (ix2 n ⟨j.val, by omega⟩) = (Real.cos (ang2 n j) : EReal)
  /-- Second-stage sines of the half spectrum. -/
  hs : ∀ (n : Fin 128) (j : Fin 64), x9 (ix2 n ⟨64 + j.val, by omega⟩) = (Real.sin (ang2 n j) : EReal)
  /-- The alternating signs. -/
  alt : ∀ n : Fin 128, x10 (ix2 0 n) = (((-1) ^ n.val : ℝ) : EReal)

/-- The second stage's angle is symmetric. -/
theorem ang2_comm (k n : ℕ) : ang2 k n = ang2 n k := by
  unfold ang2; ring

/-- A row's squared magnitudes. -/
def pw (x : ℕ → ℝ) (k : ℕ) : ℝ := re x k * re x k + im x k * im x k

/-- The waves of the first `n` picks summed at position `t`. -/
def waves (x : ℕ → ℝ) (f : ℕ → ℕ) (n t : ℕ) : ℝ :=
  ∑ k ∈ Finset.range n, wt (f k) * (re x (f k) * Real.cos (ang (f k) t) - im x (f k) * Real.sin (ang (f k) t))

section

variable (x0 : Vec Ideal S32x64x128 .f32) {x1 : Vec Ideal S64x64 .f32} {x2 : Vec Ideal S64x64 .f32} {x3 : Vec Ideal S64x128 .f32}
  {x4 : Vec Ideal S64x128 .f32} {x5 : Vec Ideal S64x64 .f32} {x6 : Vec Ideal S64x64 .f32} {x7 : Vec Ideal S128x256 .f32}
  {x8 : Vec Ideal S64x256 .f32} {x9 : Vec Ideal S128x128 .f32} {x10 : Vec Ideal S1x128 .f32}
  (T : Tables x1 x2 x3 x4 x5 x6 x7 x8 x9 x10) {b : Fin 32} {x : ℕ → ℝ}
  (hx : ∀ (n1 : Fin 64) (n2 : Fin 128), x0 (ix3 b n1 n2) = (x (128 * n1 + n2) : EReal))

include T hx

/-- The twiddled first stage's real part. -/
theorem pr_at (k : Fin 64) (n : Fin 128) : k0_pay273 x0 x1 x2 x3 x4 x5 x6 x7 x8 x9 x10 (ix3 b k n) = (pr x k n : EReal) := by
  rw [pay273_at]
  simp only [T.c1, T.s1, T.ct, T.st, hx, ← EReal.coe_mul, ← Consts.coe_sum, ← EReal.coe_zero, ← EReal.coe_sub, ← EReal.coe_add]
  rfl

/-- The twiddled first stage's imaginary part. -/
theorem pi_at (k : Fin 64) (n : Fin 128) : k0_pay274 x0 x1 x2 x3 x4 x5 x6 x7 x8 x9 x10 (ix3 b k n) = (pi' x k n : EReal) := by
  rw [pay274_at]
  simp only [T.c1, T.s1, T.ct, T.st, hx, ← EReal.coe_mul, ← Consts.coe_sum, ← EReal.coe_zero, ← EReal.coe_sub, ← EReal.coe_add]
  rfl

/-- The grid's real parts. -/
theorem re_at (i j : Fin 64) : k0_pay278 x0 x1 x2 x3 x4 x5 x6 x7 x8 x9 x10 (ix3 b i j) = (re x (bin i j) : EReal) := by
  rw [pay278_at]
  simp only [pr_at x0 T hx, pi_at x0 T hx, T.hc, T.hs, ang2_comm _ j, ← EReal.coe_mul, ← Consts.coe_sum, ← EReal.coe_add]
  rw [re_eq]

/-- The grid's imaginary parts. -/
theorem im_at (i j : Fin 64) : k0_pay279 x0 x1 x2 x3 x4 x5 x6 x7 x8 x9 x10 (ix3 b i j) = (im x (bin i j) : EReal) := by
  rw [pay279_at]
  simp only [pr_at x0 T hx, pi_at x0 T hx, T.hc, T.hs, ang2_comm _ j, ← EReal.coe_mul, ← Consts.coe_sum, ← EReal.coe_sub]
  rw [im_eq]

/-- The Nyquist bin's real part. -/
theorem re_ny : k0_pay280 x0 x1 x2 x3 x4 x5 x6 x7 x8 x9 x10 (ix2 b 0) = (re x 4096 : EReal) := by
  rw [pay280_at]
  simp only [pr_at x0 T hx, T.alt, ← EReal.coe_mul, ← Consts.coe_sum]
  rw [← re_nyq]; rfl

/-- The Nyquist bin's imaginary part. -/
theorem im_ny : k0_pay281 x0 x1 x2 x3 x4 x5 x6 x7 x8 x9 x10 (ix2 b 0) = (im x 4096 : EReal) := by
  rw [pay281_at]
  simp only [pi_at x0 T hx, T.alt, ← EReal.coe_mul, ← Consts.coe_sum]
  rw [← im_nyq]; rfl

/-- The Nyquist bin's squared magnitude. -/
theorem pw_ny : k0_pay282 x0 x1 x2 x3 x4 x5 x6 x7 x8 x9 x10 (ix3 b 0 0) = (pw x 4096 : EReal) := by
  rw [pay282_at, re_ny x0 T hx, im_ny x0 T hx]
  simp only [← EReal.coe_mul, ← EReal.coe_add]
  rfl

/-- The state before the first round. -/
theorem st_zero : St (pw x) ∅ b (stateAt (k0_pay282 x0 x1 x2 x3 x4 x5 x6 x7 x8 x9 x10) (k0_pay283 x0 x1 x2 x3 x4 x5 x6 x7 x8 x9 x10) 0) where
  mag i j := by
    show k0_pay283 x0 x1 x2 x3 x4 x5 x6 x7 x8 x9 x10 (ix3 b i j) = _
    rw [pay283_at, re_at x0 T hx, im_at x0 T hx, Consts.neg_one]
    unfold left
    by_cases h : bin i j = 0
    · rw [if_neg (by rw [T.valid]; exact fun h1 => h1 h), if_pos (Or.inl h)]
    · rw [if_pos ((T.valid i j).2 h), if_neg (by rintro (h0 | h0); exacts [h h0, absurd h0 (by simp)])]
      simp only [← EReal.coe_mul, ← EReal.coe_add]
      rfl
  taken := rfl

/-- The state before round `n`. -/
theorem st_at (f : ℕ → ℕ) (n : ℕ) (hp : ∀ k < n, Pick (pw x) ((Finset.range k).image f) (f k)) :
    St (pw x) ((Finset.range n).image f) b (stateAt (k0_pay282 x0 x1 x2 x3 x4 x5 x6 x7 x8 x9 x10) (k0_pay283 x0 x1 x2 x3 x4 x5 x6 x7 x8 x9 x10) n) := by
  induction n with
  | zero => exact st_zero x0 T hx
  | succ n ih =>
    rw [Finset.range_add_one, Finset.image_insert]
    exact St.next (ih fun k hk => hp k (by omega)) (pw_ny x0 T hx) (hp n (by omega))

/-- The season after `n` rounds is the sum of the first `n` picks' waves. -/
theorem season_at (f : ℕ → ℕ) (n : ℕ) (hp : ∀ k < n, Pick (pw x) ((Finset.range k).image f) (f k)) (i : Fin 64) (j : Fin 128) :
    seasonAt x0 x1 x2 x3 x4 x5 x6 x7 x8 x9 x10 n (ix3 b i j) = (waves x f n (128 * i + j) : EReal) := by
  induction n with
  | zero =>
    show k0_pay116 (F := Ideal) (ix3 b i j) = _
    unfold k0_pay116
    pointwise
    simp [waves]
  | succ n ih =>
    have hs := st_at x0 T hx f n fun k hk => hp k (by omega)
    have hn := pw_ny x0 T hx
    have hf := hp n (by omega)
    have hsel := sel_eq hs hn hf
    have hfl := flag_eq hs hn hf
    have ih' := ih fun k hk => hp k (by omega)
    unfold seasonAt
    rw [pay208, pay209, pay212, pay213, ld1]
    rw [add_eq hf.hi _ _ _ _ _ _ _ _ i j _ _ _ T.c1 T.s1 T.tc T.ts T.c2 T.s2 ih'
      (coef_eq hf.hi (re x) _ _ _ _ (re_at x0 T hx) (re_ny x0 T hx) hsel hfl)
      (coef_eq hf.hi (im x) _ _ _ _ (im_at x0 T hx) (im_ny x0 T hx) hsel hfl)
      (freq_eq hf.hi _ _ _ T.fg hsel hfl)]
    unfold waves
    rw [Finset.sum_range_succ]

/-- The block's season at a sequence. -/
theorem block_season (f : ℕ → ℕ) (hp : ∀ k < 5, Pick (pw x) ((Finset.range k).image f) (f k)) (i : Fin 64) (j : Fin 128) :
    k0_pay301 x0 x1 x2 x3 x4 x5 x6 x7 x8 x9 x10 (ix3 b i j) = (waves x f 5 (128 * i + j) : EReal) := by
  rw [season_eq]
  exact season_at x0 T hx f 5 hp i j

/-- The block's trend at a sequence. -/
theorem block_trend (f : ℕ → ℕ) (hp : ∀ k < 5, Pick (pw x) ((Finset.range k).image f) (f k)) (i : Fin 64) (j : Fin 128) :
    k0_pay1 (k0_pay207 x0 x1 x2 x3 x4 x5 x6 x7 x8 x9 x10) (k0_pay301 x0 x1 x2 x3 x4 x5 x6 x7 x8 x9 x10) (ix3 b i j) = ((x (128 * i + j) - waves x f 5 (128 * i + j) : ℝ) : EReal) := by
  have e : k0_pay1 (k0_pay207 x0 x1 x2 x3 x4 x5 x6 x7 x8 x9 x10) (k0_pay301 x0 x1 x2 x3 x4 x5 x6 x7 x8 x9 x10) (ix3 b i j) = k0_pay207 x0 x1 x2 x3 x4 x5 x6 x7 x8 x9 x10 (ix3 b i j) - k0_pay301 x0 x1 x2 x3 x4 x5 x6 x7 x8 x9 x10 (ix3 b i j) := by
    unfold k0_pay1
    pointwise
  rw [e, pay207, block_season x0 T hx f hp, hx, ← EReal.coe_sub]

end

end Cert.KernelIdeal.Rounds
-- ==== Proof.Blk.lean ====
/- The kernel's results at an index, as one block's payload. -/
module

public import proofs.«01_k».proof.Proof.Tab
public import proofs.«01_k».proof.Proof.Block
public import Idealize.ShloMosaic.Lib.Pipeline.ValueKit

@[expose] public section

set_option maxRecDepth 16384

noncomputable section

namespace Cert.KernelIdeal.Blk

open Idealize.ShloMosaic Idealize.ShloMosaic.TcCoe Idealize.ShloMosaic.Pointwise Cert.KernelIdeal Cert.KernelIdeal.Gen

variable (m : (ℓ : Loc nD τ sig) → Buf (Elt Ideal) ℓ) (c : Dev nD)

/-- Window 0's block at a point is the point's. -/
theorem idx0 : ∀ t : Fin cfg0.N, win0_0.index t = ![t.val, 0, 0] := (by decide +kernel : ∀ t : Fin grid0.N, _)

/-- Window 11's block at a point is the point's. -/
theorem idx11 : ∀ t : Fin cfg0.N, win0_11.index t = ![t.val, 0, 0] := (by decide +kernel : ∀ t : Fin grid0.N, _)

/-- Window 12's block at a point is the point's. -/
theorem idx12 : ∀ t : Fin cfg0.N, win0_12.index t = ![t.val, 0, 0] := (by decide +kernel : ∀ t : Fin grid0.N, _)

/-- Window 1's block is its whole table. -/
theorem idx1 : ∀ t : Fin cfg0.N, win0_1.index t = ![0, 0] := (by decide +kernel : ∀ t : Fin grid0.N, _)

/-- A table read through window 1's block is itself. -/
theorem read1 (t : Fin cfg0.N) (X : Buf (Elt Ideal) ((c : Thread nD τ).loc main_v15)) : ((cfg0.win 1).blk t).view.read (Elt Ideal) X = X := by
  funext y
  blk_simp
  refine congrArg X (funext fun a => Fin.ext ?_)
  blk_simp [idx1]
  match a with
  | ⟨0, _⟩ => exact (congrArg (· + _) (Nat.zero_mul _)).trans (Nat.zero_add _)
  | ⟨1, _⟩ => exact (congrArg (· + _) (Nat.zero_mul _)).trans (Nat.zero_add _)

/-- Window 1's block at any point is its table. -/
theorem iblk1 (t : Fin cfg0.N) : iblk m c 1 t = V m c main_v15 := read1 c t _

/-- Window 2's block is its whole table. -/
theorem idx2 : ∀ t : Fin cfg0.N, win0_2.index t = ![0, 0] := (by decide +kernel : ∀ t : Fin grid0.N, _)

/-- A table read through window 2's block is itself. -/
theorem read2 (t : Fin cfg0.N) (X : Buf (Elt Ideal) ((c : Thread nD τ).loc main_v26)) : ((cfg0.win 2).blk t).view.read (Elt Ideal) X = X := by
  funext y
  blk_simp
  refine congrArg X (funext fun a => Fin.ext ?_)
  blk_simp [idx2]
  match a with
  | ⟨0, _⟩ => exact (congrArg (· + _) (Nat.zero_mul _)).trans (Nat.zero_add _)
  | ⟨1, _⟩ => exact (congrArg (· + _) (Nat.zero_mul _)).trans (Nat.zero_add _)

/-- Window 2's block at any point is its table. -/
theorem iblk2 (t : Fin cfg0.N) : iblk m c 2 t = V m c main_v26 := read2 c t _

/-- Window 3's block is its whole table. -/
theorem idx3 : ∀ t : Fin cfg0.N, win0_3.index t = ![0, 0] := (by decide +kernel : ∀ t : Fin grid0.N, _)

/-- A table read through window 3's block is itself. -/
theorem read3 (t : Fin cfg0.N) (X : Buf (Elt Ideal) ((c : Thread nD τ).loc main_v38)) : ((cfg0.win 3).blk t).view.read (Elt Ideal) X = X := by
  funext y
  blk_simp
  refine congrArg X (funext fun a => Fin.ext ?_)
  blk_simp [idx3]
  match a with
  | ⟨0, _⟩ => exact (congrArg (· + _) (Nat.zero_mul _)).trans (Nat.zero_add _)
  | ⟨1, _⟩ => exact (congrArg (· + _) (Nat.zero_mul _)).trans (Nat.zero_add _)

/-- Window 3's block at any point is its table. -/
theorem iblk3 (t : Fin cfg0.N) : iblk m c 3 t = V m c main_v38 := read3 c t _

/-- Window 4's block is its whole table. -/
theorem idx4 : ∀ t : Fin cfg0.N, win0_4.index t = ![0, 0] := (by decide +kernel : ∀ t : Fin grid0.N, _)

/-- A table read through window 4's block is itself. -/
theorem read4 (t : Fin cfg0.N) (X : Buf (Elt Ideal) ((c : Thread nD τ).loc main_v49)) : ((cfg0.win 4).blk t).view.read (Elt Ideal) X = X := by
  funext y
  blk_simp
  refine congrArg X (funext fun a => Fin.ext ?_)
  blk_simp [idx4]
  match a with
  | ⟨0, _⟩ => exact (congrArg (· + _) (Nat.zero_mul _)).trans (Nat.zero_add _)
  | ⟨1, _⟩ => exact (congrArg (· + _) (Nat.zero_mul _)).trans (Nat.zero_add _)

/-- Window 4's block at any point is its table. -/
theorem iblk4 (t : Fin cfg0.N) : iblk m c 4 t = V m c main_v49 := read4 c t _

/-- Window 5's block is its whole table. -/
theorem idx5 : ∀ t : Fin cfg0.N, win0_5.index t = ![0, 0] := (by decide +kernel : ∀ t : Fin grid0.N, _)

/-- A table read through window 5's block is itself. -/
theorem read5 (t : Fin cfg0.N) (X : Buf (Elt Ideal) ((c : Thread nD τ).loc main_cst)) : ((cfg0.win 5).blk t).view.read (Elt Ideal) X = X := by
  funext y
  blk_simp
  refine congrArg X (funext fun a => Fin.ext ?_)
  blk_simp [idx5]
  match a with
  | ⟨0, _⟩ => exact (congrArg (· + _) (Nat.zero_mul _)).trans (Nat.zero_add _)
  | ⟨1, _⟩ => exact (congrArg (· + _) (Nat.zero_mul _)).trans (Nat.zero_add _)

/-- Window 5's block at any point is its table. -/
theorem iblk5 (t : Fin cfg0.N) : iblk m c 5 t = V m c main_cst := read5 c t _

/-- Window 6's block is its whole table. -/
theorem idx6 : ∀ t : Fin cfg0.N, win0_6.index t = ![0, 0] := (by decide +kernel : ∀ t : Fin grid0.N, _)

/-- A table read through window 6's block is itself. -/
theorem read6 (t : Fin cfg0.N) (X : Buf (Elt Ideal) ((c : Thread nD τ).loc main_cst_0)) : ((cfg0.win 6).blk t).view.read (Elt Ideal) X = X := by
  funext y
  blk_simp
  refine congrArg X (funext fun a => Fin.ext ?_)
  blk_simp [idx6]
  match a with
  | ⟨0, _⟩ => exact (congrArg (· + _) (Nat.zero_mul _)).trans (Nat.zero_add _)
  | ⟨1, _⟩ => exact (congrArg (· + _) (Nat.zero_mul _)).trans (Nat.zero_add _)

/-- Window 6's block at any point is its table. -/
theorem iblk6 (t : Fin cfg0.N) : iblk m c 6 t = V m c main_cst_0 := read6 c t _

/-- Window 7's block is its whole table. -/
theorem idx7 : ∀ t : Fin cfg0.N, win0_7.index t = ![0, 0] := (by decide +kernel : ∀ t : Fin grid0.N, _)

/-- A table read through window 7's block is itself. -/
theorem read7 (t : Fin cfg0.N) (X : Buf (Elt Ideal) ((c : Thread nD τ).loc main_v76)) : ((cfg0.win 7).blk t).view.read (Elt Ideal) X = X := by
  funext y
  blk_simp
  refine congrArg X (funext fun a => Fin.ext ?_)
  blk_simp [idx7]
  match a with
  | ⟨0, _⟩ => exact (congrArg (· + _) (Nat.zero_mul _)).trans (Nat.zero_add _)
  | ⟨1, _⟩ => exact (congrArg (· + _) (Nat.zero_mul _)).trans (Nat.zero_add _)

/-- Window 7's block at any point is its table. -/
theorem iblk7 (t : Fin cfg0.N) : iblk m c 7 t = V m c main_v76 := read7 c t _

/-- Window 8's block is its whole table. -/
theorem idx8 : ∀ t : Fin cfg0.N, win0_8.index t = ![0, 0] := (by decide +kernel : ∀ t : Fin grid0.N, _)

/-- A table read through window 8's block is itself. -/
theorem read8 (t : Fin cfg0.N) (X : Buf (Elt Ideal) ((c : Thread nD τ).loc main_v77)) : ((cfg0.win 8).blk t).view.read (Elt Ideal) X = X := by
  funext y
  blk_simp
  refine congrArg X (funext fun a => Fin.ext ?_)
  blk_simp [idx8]
  match a with
  | ⟨0, _⟩ => exact (congrArg (· + _) (Nat.zero_mul _)).trans (Nat.zero_add _)
  | ⟨1, _⟩ => exact (congrArg (· + _) (Nat.zero_mul _)).trans (Nat.zero_add _)

/-- Window 8's block at any point is its table. -/
theorem iblk8 (t : Fin cfg0.N) : iblk m c 8 t = V m c main_v77 := read8 c t _

/-- Window 9's block is its whole table. -/
theorem idx9 : ∀ t : Fin cfg0.N, win0_9.index t = ![0, 0] := (by decide +kernel : ∀ t : Fin grid0.N, _)

/-- A table read through window 9's block is itself. -/
theorem read9 (t : Fin cfg0.N) (X : Buf (Elt Ideal) ((c : Thread nD τ).loc main_v75)) : ((cfg0.win 9).blk t).view.read (Elt Ideal) X = X := by
  funext y
  blk_simp
  refine congrArg X (funext fun a => Fin.ext ?_)
  blk_simp [idx9]
  match a with
  | ⟨0, _⟩ => exact (congrArg (· + _) (Nat.zero_mul _)).trans (Nat.zero_add _)
  | ⟨1, _⟩ => exact (congrArg (· + _) (Nat.zero_mul _)).trans (Nat.zero_add _)

/-- Window 9's block at any point is its table. -/
theorem iblk9 (t : Fin cfg0.N) : iblk m c 9 t = V m c main_v75 := read9 c t _

/-- Window 10's block is its whole table. -/
theorem idx10 : ∀ t : Fin cfg0.N, win0_10.index t = ![0, 0] := (by decide +kernel : ∀ t : Fin grid0.N, _)

/-- A table read through window 10's block is itself. -/
theorem read10 (t : Fin cfg0.N) (X : Buf (Elt Ideal) ((c : Thread nD τ).loc main_v0)) : ((cfg0.win 10).blk t).view.read (Elt Ideal) X = X := by
  funext y
  blk_simp
  refine congrArg X (funext fun a => Fin.ext ?_)
  blk_simp [idx10]
  match a with
  | ⟨0, _⟩ => exact (congrArg (· + _) (Nat.zero_mul _)).trans (Nat.zero_add _)
  | ⟨1, _⟩ => exact (congrArg (· + _) (Nat.zero_mul _)).trans (Nat.zero_add _)

/-- Window 10's block at any point is its table. -/
theorem iblk10 (t : Fin cfg0.N) : iblk m c 10 t = V m c main_v0 := read10 c t _

/-- Rows read through window 0's block. -/
theorem read0 (t : Fin cfg0.N) (X : Buf (Elt Ideal) ((c : Thread nD τ).loc main_v1)) (b : Fin 32) (i : Fin 64) (j : Fin 128) :
    ((cfg0.win 0).blk t).view.read (Elt Ideal) X (ix3 b i j) = X (ix3 ⟨32 * t.val + b.val, by have : t.val < 64 := t.isLt; omega⟩ i j) := by
  blk_simp
  refine congrArg X (funext fun a => Fin.ext ?_)
  blk_simp [idx0]
  match a with
  | ⟨0, _⟩ => show t.val * 32 + b.val = 32 * t.val + b.val; omega
  | ⟨1, _⟩ => show 0 * 64 + i.val = i.val; omega
  | ⟨2, _⟩ => show 0 * 128 + j.val = j.val; omega

/-- Window 0's block at a point is the point's rows. -/
theorem iblk0 (t : Fin cfg0.N) (b : Fin 32) (i : Fin 64) (j : Fin 128) :
    iblk m c 0 t (ix3 b i j) = V m c main_v1 (ix3 ⟨32 * t.val + b.val, by have : t.val < 64 := t.isLt; omega⟩ i j) := read0 c t _ b i j

/-- Rows read through window 11's block. -/
theorem read11 (t : Fin cfg0.N) (X : Buf (Elt Ideal) ((c : Thread nD τ).loc main_v78_0)) (b : Fin 32) (i : Fin 64) (j : Fin 128) :
    ((cfg0.win 11).blk t).view.read (Elt Ideal) X (ix3 b i j) = X (ix3 ⟨32 * t.val + b.val, by have : t.val < 64 := t.isLt; omega⟩ i j) := by
  blk_simp
  refine congrArg X (funext fun a => Fin.ext ?_)
  blk_simp [idx11]
  match a with
  | ⟨0, _⟩ => show t.val * 32 + b.val = 32 * t.val + b.val; omega
  | ⟨1, _⟩ => show 0 * 64 + i.val = i.val; omega
  | ⟨2, _⟩ => show 0 * 128 + j.val = j.val; omega

/-- Rows read through window 12's block. -/
theorem read12 (t : Fin cfg0.N) (X : Buf (Elt Ideal) ((c : Thread nD τ).loc main_v78_1)) (b : Fin 32) (i : Fin 64) (j : Fin 128) :
    ((cfg0.win 12).blk t).view.read (Elt Ideal) X (ix3 b i j) = X (ix3 ⟨32 * t.val + b.val, by have : t.val < 64 := t.isLt; omega⟩ i j) := by
  blk_simp
  refine congrArg X (funext fun a => Fin.ext ?_)
  blk_simp [idx12]
  match a with
  | ⟨0, _⟩ => show t.val * 32 + b.val = 32 * t.val + b.val; omega
  | ⟨1, _⟩ => show 0 * 64 + i.val = i.val; omega
  | ⟨2, _⟩ => show 0 * 128 + j.val = j.val; omega

/-- The offsets of the whole block. -/
theorem off3 : (![0, 0, 0] : Fin S32x64x128.rank → Nat) = fun _ => 0 := funext fun a => by fin_cases a <;> rfl

/-- The season's staged block is its payload. -/
theorem out11 (x0 : Vec Ideal S32x64x128 .f32) (x1 x2 : Vec Ideal S64x64 .f32) (x3 x4 : Vec Ideal S64x128 .f32) (x5 x6 : Vec Ideal S64x64 .f32)
    (x7 : Vec Ideal S128x256 .f32) (x8 : Vec Ideal S64x256 .f32) (x9 : Vec Ideal S128x128 .f32) (x10 : Vec Ideal S1x128 .f32) :
    out0_11 x0 x1 x2 x3 x4 x5 x6 x7 x8 x9 x10 = k0_pay301 x0 x1 x2 x3 x4 x5 x6 x7 x8 x9 x10 := by
  unfold out0_11
  exact View.canon_unit_zero off3 _ _

/-- The trend's staged block is its payload. -/
theorem out12 (x0 : Vec Ideal S32x64x128 .f32) (x1 x2 : Vec Ideal S64x64 .f32) (x3 x4 : Vec Ideal S64x128 .f32) (x5 x6 : Vec Ideal S64x64 .f32)
    (x7 : Vec Ideal S128x256 .f32) (x8 : Vec Ideal S64x256 .f32) (x9 : Vec Ideal S128x128 .f32) (x10 : Vec Ideal S1x128 .f32) :
    out0_12 x0 x1 x2 x3 x4 x5 x6 x7 x8 x9 x10
      = k0_pay1 (k0_pay207 x0 x1 x2 x3 x4 x5 x6 x7 x8 x9 x10) (k0_pay301 x0 x1 x2 x3 x4 x5 x6 x7 x8 x9 x10) := by
  unfold out0_12
  exact View.canon_unit_zero off3 _ _

/-- A block cut to its window is itself. -/
theorem cut11 (t : Fin cfg0.N) (y : Vec Ideal S32x64x128 .f32) : (cfg0.win 11).cut (grid0.coords t) y = y := rfl

/-- A block cut to its window is itself. -/
theorem cut12 (t : Fin cfg0.N) (y : Vec Ideal S32x64x128 .f32) : (cfg0.win 12).cut (grid0.coords t) y = y := rfl

/-- The season's array at an index. -/
theorem final11 (t : Fin cfg0.N) (b : Fin 32) (i : Fin 64) (j : Fin 128) :
    (dats m 0 c).arrAt 11 cfg0.N (ix3 ⟨32 * t.val + b.val, by have : t.val < 64 := t.isLt; omega⟩ i j)
      = k0_pay301 (iblk m c 0 t) (V m c main_v15) (V m c main_v26) (V m c main_v38) (V m c main_v49) (V m c main_cst) (V m c main_cst_0)
          (V m c main_v76) (V m c main_v77) (V m c main_v75) (V m c main_v0) (ix3 b i j) := by
  refine (read11 c t _ b i j).symm.trans ((congrFun (Value.blocks11 m c t (flush0_11 t)) (ix3 b i j)).trans ?_)
  rw [Value.flushed11, cut11, out11, iblk1, iblk2, iblk3, iblk4, iblk5, iblk6, iblk7, iblk8, iblk9, iblk10]

/-- The trend's array at an index. -/
theorem final12 (t : Fin cfg0.N) (b : Fin 32) (i : Fin 64) (j : Fin 128) :
    (dats m 0 c).arrAt 12 cfg0.N (ix3 ⟨32 * t.val + b.val, by have : t.val < 64 := t.isLt; omega⟩ i j)
      = k0_pay1 (k0_pay207 (iblk m c 0 t) (V m c main_v15) (V m c main_v26) (V m c main_v38) (V m c main_v49) (V m c main_cst) (V m c main_cst_0)
          (V m c main_v76) (V m c main_v77) (V m c main_v75) (V m c main_v0))
        (k0_pay301 (iblk m c 0 t) (V m c main_v15) (V m c main_v26) (V m c main_v38) (V m c main_v49) (V m c main_cst) (V m c main_cst_0)
          (V m c main_v76) (V m c main_v77) (V m c main_v75) (V m c main_v0)) (ix3 b i j) := by
  refine (read12 c t _ b i j).symm.trans ((congrFun (Value.blocks12 m c t (flush0_12 t)) (ix3 b i j)).trans ?_)
  rw [Value.flushed12, cut12, out12, iblk1, iblk2, iblk3, iblk4, iblk5, iblk6, iblk7, iblk8, iblk9, iblk10]

/-- The tables as the region starts. -/
theorem tables : Rounds.Tables (V m c main_v15) (V m c main_v26) (V m c main_v38) (V m c main_v49) (V m c main_cst) (V m c main_cst_0)
    (V m c main_v76) (V m c main_v77) (V m c main_v75) (V m c main_v0) where
  c1 := Tab.v15 m c
  s1 := Tab.v26 m c
  ct := Tab.v38 m c
  st := Tab.v49 m c
  fg := Tab.cst m c
  valid := Tab.cst_0 m c
  c2 := Tab.v76_cos m c
  s2 := Tab.v76_sin m c
  tc := Tab.v77_cos m c
  ts := Tab.v77_sin m c
  hc := Tab.v75_cos m c
  hs := Tab.v75_sin m c
  alt := Tab.v0 m c

end Cert.KernelIdeal.Blk
-- ==== Proof.Top.lean ====
/- The greatest entries of a row: what a top-k reads of a row's order. -/
module

public import Idealize.ShloMosaic.Lib.Pointwise
public import Idealize.ShloMosaic.Lib.SortFacts

@[expose] public section

noncomputable section

namespace Cert.Top

open Idealize.ShloMosaic Idealize.ShloMosaic.Pointwise

/-- Position `k` strictly before position `k'` in the order of decreasing values. -/
abbrev before {n : ℕ} (v : Fin n → EReal) (k k' : Fin n) : Bool := FloatOps.cmpfTotal (F := Ideal) (φ := .f32) .gt (v k) (v k') == 1#1

/-- The positions of a row in the order of decreasing values. -/
def order {n : ℕ} (v : Fin n → EReal) : Fin n → Fin n := sortedFrom (before v)

/-- The order's comparison is the strict comparison of the values. -/
theorem before_iff {n : ℕ} (v : Fin n → EReal) (k k' : Fin n) : before v k k' = decide (v k' < v k) := by
  show (BitVec.ofBool (decide (v k' < v k)) == 1#1) = _
  cases decide (v k' < v k) <;> rfl

/-- No position comes twice in the order. -/
theorem order_injective {n : ℕ} (v : Fin n → EReal) : Function.Injective (order v) := sortedFrom_injective _

/-- Every position comes in the order. -/
theorem order_surjective {n : ℕ} (v : Fin n → EReal) : Function.Surjective (order v) := sortedFrom_surjective _

/-- Values do not increase along the order. -/
theorem order_anti {n : ℕ} (v : Fin n → EReal) (i j : Fin n) (h : i < j) : v (order v j) ≤ v (order v i) := by
  have := sortedFrom_noInversion (before v) (before v)
    (fun a b h => by rw [before_iff, decide_eq_true_iff] at h; rw [before_iff, decide_eq_false_iff_not]; exact h.le.not_gt)
    (fun _ _ h => h)
    (fun a b c h1 h2 => by
      rw [before_iff, decide_eq_false_iff_not] at *
      rw [not_lt] at *
      exact h1.trans h2) i j h
  rw [before_iff, decide_eq_false_iff_not, not_lt] at this
  exact this

/-- Moving along the last axis. -/
theorem along_last {a b n : ℕ} (i : Fin a) (j : Fin b) (k k' : Fin n) (h : 2 < (⟨3, ![a, b, n]⟩ : Shape).rank) :
    (ix3 i j k : (⟨3, ![a, b, n]⟩ : Shape).Idx).along ⟨2, h⟩ k' = ix3 i j k' := by
  funext x
  match x with
  | ⟨0, _⟩ => rfl
  | ⟨1, _⟩ => rfl
  | ⟨2, _⟩ => rfl

variable {a b n K : ℕ} (x : (⟨3, ![a, b, n]⟩ : Shape).Idx → EReal)
  (h : (⟨3, ![a, b, n]⟩ : Shape).Slices (fun _ => 0) ⟨3, ![a, b, K]⟩) (hK : K ≤ n)

/-- The top values of a row are the row's values at the first positions of its order. -/
theorem topK_val (i : Fin a) (j : Fin b) (k : Fin K) :
    (Host.topK ⟨3, ![a, b, K]⟩ 2 (FloatOps.cmpfTotal (F := Ideal) (φ := .f32) .gt) x h).1 (ix3 i j k)
      = x (ix3 i j (order (fun k' => x (ix3 i j k')) ⟨k.val, by omega⟩)) := by
  unfold Host.topK
  dsimp only
  have e : ∀ p, extractStridedSlice (s := ⟨3, ![a, b, n]⟩) (α := EReal) ⟨3, ![a, b, K]⟩ (fun _ => 0) p h (ix3 i j k) = p (ix3 i j ⟨k.val, by omega⟩) := by
    intro p
    unfold extractStridedSlice
    congr 1
    funext y
    match y with
    | ⟨0, _⟩ => exact Fin.ext (Nat.zero_add _)
    | ⟨1, _⟩ => exact Fin.ext (Nat.zero_add _)
    | ⟨2, _⟩ => exact Fin.ext (Nat.zero_add _)
  refine (e _).trans ?_
  unfold Host.sort2
  rw [dif_pos (show 2 < (⟨3, ![a, b, n]⟩ : Shape).rank from Nat.lt_succ_self 2)]
  refine (congrArg x (along_last i j _ _ _)).trans ?_
  exact congrArg (fun R => x (ix3 i j (sortedFrom R ⟨k.val, by omega⟩))) (funext fun p => funext fun q =>
    congrArg₂ (fun u w => FloatOps.cmpfTotal (F := Ideal) (φ := .f32) .gt (x u) (x w) == 1#1) (along_last i j _ _ _) (along_last i j _ _ _))

/-- The top positions of a row are the first positions of its order. -/
theorem topK_idx (i : Fin a) (j : Fin b) (k : Fin K) :
    (Host.topK ⟨3, ![a, b, K]⟩ 2 (FloatOps.cmpfTotal (F := Ideal) (φ := .f32) .gt) x h).2 (ix3 i j k)
      = BitVec.ofNat 32 (order (fun k' => x (ix3 i j k')) ⟨k.val, by omega⟩).val := by
  unfold Host.topK
  dsimp only
  have e : ∀ p, extractStridedSlice (s := ⟨3, ![a, b, n]⟩) (α := BitVec 32) ⟨3, ![a, b, K]⟩ (fun _ => 0) p h (ix3 i j k) = p (ix3 i j ⟨k.val, by omega⟩) := by
    intro p
    unfold extractStridedSlice
    congr 1
    funext y
    match y with
    | ⟨0, _⟩ => exact Fin.ext (Nat.zero_add _)
    | ⟨1, _⟩ => exact Fin.ext (Nat.zero_add _)
    | ⟨2, _⟩ => exact Fin.ext (Nat.zero_add _)
  refine (e _).trans ?_
  unfold Host.sort2
  rw [dif_pos (show 2 < (⟨3, ![a, b, n]⟩ : Shape).rank from Nat.lt_succ_self 2)]
  dsimp only
  rw [dif_pos (show 2 < 3 from Nat.lt_succ_self 2)]
  refine (congrArg (iotaInDim ⟨3, ![a, b, n]⟩ 32 ⟨2, Nat.lt_succ_self 2⟩) (along_last i j _ _ _)).trans ?_
  exact congrArg (fun R => BitVec.ofNat 32 (sortedFrom (n := n) R ⟨k.val, by omega⟩).val) (funext fun p => funext fun q =>
    congrArg₂ (fun u w => FloatOps.cmpfTotal (F := Ideal) (φ := .f32) .gt (x u) (x w) == 1#1) (along_last i j _ _ _) (along_last i j _ _ _))

end Cert.Top
-- ==== Proof.Finite.lean ====
/- Sums of extended reals with a real value have real terms; squares and roots of extended reals. -/
module

public import proofs.«01_k».proof.Proof.Consts

@[expose] public section

noncomputable section

namespace Cert.Finite

open Idealize.ShloMosaic

/-- An extended real that is a real. -/
def fin (x : EReal) : Prop := x ≠ ⊤ ∧ x ≠ ⊥

/-- A real extended real is the coercion of its real part. -/
theorem fin.coe {x : EReal} (h : fin x) : x = (x.toReal : EReal) := (EReal.coe_toReal h.1 h.2).symm

/-- The terms of a real sum of two are real. -/
theorem fin_add {x y : EReal} (h : fin (x + y)) : fin x ∧ fin y := by
  induction x <;> induction y <;> simp_all [fin]

/-- The terms of a real sum are real. -/
theorem fin_sum {ι : Type*} (s : Finset ι) (f : ι → EReal) (h : fin (∑ i ∈ s, f i)) : ∀ i ∈ s, fin (f i) := by
  classical
  induction s using Finset.induction_on with
  | empty => intro i hi; exact absurd hi (Finset.notMem_empty i)
  | insert a s ha ih =>
    rw [Finset.sum_insert ha] at h
    intro i hi
    rcases Finset.mem_insert.1 hi with rfl | hi
    · exact (fin_add h).1
    · exact ih (fin_add h).2 i hi

/-- A real product by a real other than zero has a real factor. -/
theorem fin_mul {x : EReal} {c : ℝ} (hc : c ≠ 0) (h : fin (x * c)) : fin x := by
  induction x with
  | bot =>
    rcases lt_or_gt_of_ne hc with h0 | h0
    · rw [EReal.bot_mul_coe_of_neg h0] at h; exact absurd rfl h.1
    · rw [EReal.bot_mul_coe_of_pos h0] at h; exact absurd rfl h.2
  | top =>
    rcases lt_or_gt_of_ne hc with h0 | h0
    · rw [EReal.top_mul_coe_of_neg h0] at h; exact absurd rfl h.2
    · rw [EReal.top_mul_coe_of_pos h0] at h; exact absurd rfl h.1
  | coe r => exact ⟨EReal.coe_ne_top r, EReal.coe_ne_bot r⟩

/-- A negated extended real is real only if the extended real is. -/
theorem fin_neg {x : EReal} (h : fin (-x)) : fin x := by
  induction x <;> simp_all [fin]

/-- The square of an extended real is not negative. -/
theorem sq_nonneg (x : EReal) : 0 ≤ x * x := by
  induction x with
  | bot => simp
  | top => simp
  | coe r => rw [← EReal.coe_mul]; exact_mod_cast mul_self_nonneg r

/-- A sum of two squares below infinity has real bases. -/
theorem fin_sq {x y : EReal} (h : x * x + y * y ≠ ⊤) : fin x ∧ fin y := by
  have hx := sq_nonneg x
  have hy := sq_nonneg y
  refine ⟨⟨?_, ?_⟩, ?_, ?_⟩ <;> rintro rfl <;> apply h
  · rw [EReal.top_mul_top]; exact EReal.top_add_of_ne_bot (ne_of_gt (lt_of_lt_of_le EReal.bot_lt_zero hy))
  · rw [EReal.bot_mul_bot]; exact EReal.top_add_of_ne_bot (ne_of_gt (lt_of_lt_of_le EReal.bot_lt_zero hy))
  · rw [EReal.top_mul_top]; exact EReal.add_top_of_ne_bot (ne_of_gt (lt_of_lt_of_le EReal.bot_lt_zero hx))
  · rw [EReal.bot_mul_bot]; exact EReal.add_top_of_ne_bot (ne_of_gt (lt_of_lt_of_le EReal.bot_lt_zero hx))

/-- The root of an extended real that is not negative is not negative. -/
theorem sqrt_nonneg {x : EReal} (h : 0 ≤ x) : 0 ≤ Ideal.sqrt x := by
  induction x with
  | bot => simp at h
  | top => exact le_top
  | coe r =>
    show (0 : EReal) ≤ if r < 0 then ⊥ else (Real.sqrt r : EReal)
    rw [if_neg (not_lt.2 (by exact_mod_cast h))]
    exact_mod_cast Real.sqrt_nonneg r

/-- The root of a real that is not negative. -/
theorem sqrt_coe {r : ℝ} (h : 0 ≤ r) : Ideal.sqrt (r : EReal) = (Real.sqrt r : EReal) := by
  show (if r < 0 then ⊥ else (Real.sqrt r : EReal)) = _
  rw [if_neg (not_lt.2 h)]

/-- Infinity's root. -/
theorem sqrt_ne_top {x : EReal} (h : Ideal.sqrt x ≠ ⊤) : x ≠ ⊤ := by
  rintro rfl
  exact h rfl

end Cert.Finite
-- ==== Proof.Host.lean ====
/- The reference's operations, stage by stage, and what its two results are in terms of them. -/
module

public import proofs.«01_k».proof.Proof.Gen.ReferenceIdeal.Run
public import proofs.«01_k».proof.Proof.Gen.Pre_no_ties
public import proofs.«01_k».proof.Proof.Consts
public import proofs.«01_k».proof.Proof.Trig
public import proofs.«01_k».proof.Proof.Top
public import proofs.«01_k».proof.Proof.Finite
public import Idealize.ShloMosaic.Lib.Routing.OpsOrder
public import Idealize.ShloMosaic.Lib.Routing.OpsSet
public import Idealize.ShloMosaic.Lib.Routing.OpsPair

@[expose] public section

set_option maxRecDepth 16384

noncomputable section

namespace Cert.ReferenceIdeal.Stages

open Cert.Trig Idealize.ShloMosaic Idealize.ShloMosaic.TcCoe Idealize.ShloMosaic.Pointwise Cert.ReferenceIdeal Cert.ReferenceIdeal.Gen

/-- The angles. -/
def angV : FVec Ideal S4097x8192 .f32 :=
  Host.divf (mulf (broadcastInDim S4097x8192 ![] bcast_S_S4097x8192 (mulf (constant S_ .f32 0x40000000#32) (Host.acos (constant S_ .f32 0xBF800000#32))))
      (mulf (broadcastInDim S4097x8192 ![0, 1] bcast_S4097x1_S4097x8192_0_1 (broadcastInDim S4097x1 ![0] bcast_S4097_S4097x1_0 (sitofp .f32 (iotaInDim S4097 32 0))))
        (broadcastInDim S4097x8192 ![0, 1] bcast_S1x8192_S4097x8192_0_1 (broadcastInDim S1x8192 ![1] bcast_S8192_S1x8192_1 (sitofp .f32 (iotaInDim S8192 32 0))))))
    (broadcastInDim S4097x8192 ![] bcast_S_S4097x8192 (constant S_ .f32 0x46000000#32))

/-- The spectrum's real parts. -/
def reV (x : FVec Ideal S64x32x8192 .f32) : FVec Ideal S64x32x4097 .f32 :=
  Host.dotGeneral dot_S64x32x8192_S4097x8192_S64x32x4097_2_1_01_0_n_n (some .fp32) x (Host.cos angV)

/-- The spectrum's imaginary parts. -/
def imV (x : FVec Ideal S64x32x8192 .f32) : FVec Ideal S64x32x4097 .f32 :=
  Host.negf (Host.dotGeneral dot_S64x32x8192_S4097x8192_S64x32x4097_2_1_01_0_n_n (some .fp32) x (Host.sin angV))

/-- The magnitudes. -/
def mgV (x : FVec Ideal S64x32x8192 .f32) : FVec Ideal S64x32x4097 .f32 :=
  Host.sqrt (addf (mulf (reV x) (reV x)) (mulf (imV x) (imV x)))

/-- The magnitudes with the zero frequency's set to zero. -/
def frV (x : FVec Ideal S64x32x8192 .f32) : FVec Ideal S64x32x4097 .f32 :=
  Host.scatter scatter_S64x32x4097_S1_S64x32_01_2_2_0 (fun _ b => b) (mgV x) (broadcastInDim S1 ![] bcast_S_S1 (constantI S_ 32 0#32))
    (broadcastInDim S64x32 ![] bcast_S_S64x32 (constant S_ .f32 0x00000000#32))

/-- The five greatest magnitudes' positions. -/
def idxV (x : FVec Ideal S64x32x8192 .f32) : IVec S64x32x5 32 :=
  (Host.topK S64x32x5 2 (FloatOps.cmpfTotal (F := Ideal) (φ := .f32) .gt) (frV x) sliceFits_S64x32x4097_S64x32x5).2

/-- The mask of those positions. -/
def mkV (x : FVec Ideal S64x32x8192 .f32) : IVec S64x32x4097 1 :=
  Host.reduce IntOp.ori
    (cmpi .eq (broadcastInDim S64x32x5x4097 ![0, 1, 2, 3] bcast_S1x1x1x4097_S64x32x5x4097_0_1_2_3 (broadcastInDim S1x1x1x4097 ![3] bcast_S4097_S1x1x1x4097_3 (iotaInDim S4097 32 0)))
      (broadcastInDim S64x32x5x4097 ![0, 1, 2, 3] bcast_S64x32x5x1_S64x32x5x4097_0_1_2_3 (broadcastInDim S64x32x5x1 ![0, 1, 2] bcast_S64x32x5_S64x32x5x1_0_1_2 (idxV x))))
    (constantI S_ 1 0#1) reducesTo_S64x32x5x4097_S64x32x4097_d2 h_S_

/-- The weights of the half spectrum. -/
def wtV : FVec Ideal S4097 .f32 :=
  select (ori (cmpi .eq (iotaInDim S4097 32 0) (broadcastInDim S4097 ![] bcast_S_S4097 (constantI S_ 32 0#32)))
      (cmpi .eq (iotaInDim S4097 32 0) (broadcastInDim S4097 ![] bcast_S_S4097 (constantI S_ 32 4096#32))))
    (broadcastInDim S4097 ![] bcast_S_S4097 (constant S_ .f32 0x3F800000#32)) (broadcastInDim S4097 ![] bcast_S_S4097 (constant S_ .f32 0x40000000#32))

/-- A spectrum part masked. -/
def chV (mk : IVec S64x32x4097 1) (z : FVec Ideal S64x32x4097 .f32) : FVec Ideal S64x32x4097 .f32 :=
  select mk z (broadcastInDim S64x32x4097 ![] bcast_S_S64x32x4097 (constant S_ .f32 0x00000000#32))

/-- The weights spread over the rows. -/
def spV (w : FVec Ideal S4097 .f32) : FVec Ideal S64x32x4097 .f32 :=
  broadcastInDim S64x32x4097 ![0, 1, 2] bcast_S1x1x4097_S64x32x4097_0_1_2 (broadcastInDim S1x1x4097 ![2] bcast_S4097_S1x1x4097_2 w)

/-- A half spectrum against a table of waves. -/
def baV (p : FVec Ideal S64x32x4097 .f32) (t : FVec Ideal S4097x8192 .f32) : FVec Ideal S64x32x8192 .f32 :=
  Host.dotGeneral dot_S64x32x4097_S4097x8192_S64x32x8192_2_0_01_1_n_n (some .fp32) p t

/-- One part less another, over the length. -/
def scV (p q : FVec Ideal S64x32x8192 .f32) : FVec Ideal S64x32x8192 .f32 :=
  mulf (subf p q) (broadcastInDim S64x32x8192 ![] bcast_S_S64x32x8192 (constant S_ .f32 0x39000000#32))

/-- The season. -/
def seV (x : FVec Ideal S64x32x8192 .f32) : FVec Ideal S64x32x8192 .f32 :=
  scV (baV (mulf (chV (mkV x) (reV x)) (spV wtV)) (Host.cos angV)) (baV (mulf (chV (mkV x) (imV x)) (spV wtV)) (Host.sin angV))

/-- The first result is the season reshaped. -/
theorem out0_eq (m : (ℓ : Loc nD τ sig) → Buf (Elt Ideal) ℓ) (c : Dev nD) :
    Value.res_out0 m c = shapeCast S2048x64x128 (seV (m ((c.tc : Thread nD τ).loc main_arg0))) shapeCasts_S64x32x8192_S2048x64x128 := rfl

/-- The second result is the input less the season, reshaped. -/
theorem out1_eq (m : (ℓ : Loc nD τ sig) → Buf (Elt Ideal) ℓ) (c : Dev nD) :
    Value.res_out1 m c = shapeCast S2048x64x128 (subf (φ := .f32) (m ((c.tc : Thread nD τ).loc main_arg0)) (seV (m ((c.tc : Thread nD τ).loc main_arg0)))) shapeCasts_S64x32x8192_S2048x64x128 := rfl

/-- The precondition compares neighbours among the six greatest magnitudes. -/
theorem pre_eq (x : FVec Ideal S64x32x8192 .f32) : Pre_no_ties.fn (F := Ideal) x
    = cmpf (F := Ideal) (φ := .f32) .ogt
        (extractStridedSlice Pre_no_ties.S64x32x5 ![0, 0, 0] (Host.topK Pre_no_ties.S64x32x6 2 (FloatOps.cmpfTotal (F := Ideal) (φ := .f32) .gt) (frV x) Pre_no_ties.Facts.sliceFits_S64x32x4097_S64x32x6).1 Pre_no_ties.Facts.slices_S64x32x6_S64x32x5_0_0_0)
        (extractStridedSlice Pre_no_ties.S64x32x5 ![0, 0, 1] (Host.topK Pre_no_ties.S64x32x6 2 (FloatOps.cmpfTotal (F := Ideal) (φ := .f32) .gt) (frV x) Pre_no_ties.Facts.sliceFits_S64x32x4097_S64x32x6).1 Pre_no_ties.Facts.slices_S64x32x6_S64x32x5_0_0_1) := rfl

end Cert.ReferenceIdeal.Stages
-- ==== Proof.HostAt.lean ====
/- The reference's stages read at an index. -/
module

public import proofs.«01_k».proof.Proof.Gen.ReferenceIdeal.Run
public import proofs.«01_k».proof.Proof.Gen.Pre_no_ties
public import proofs.«01_k».proof.Proof.Consts
public import proofs.«01_k».proof.Proof.Trig
public import proofs.«01_k».proof.Proof.Top
public import proofs.«01_k».proof.Proof.Finite
public import Idealize.ShloMosaic.Lib.Routing.OpsOrder
public import Idealize.ShloMosaic.Lib.Routing.OpsSet
public import Idealize.ShloMosaic.Lib.Routing.OpsPair
public import proofs.«01_k».proof.Proof.Host
public import proofs.«01_k».proof.Proof.Angle

@[expose] public section

set_option maxRecDepth 16384

noncomputable section

namespace Cert.ReferenceIdeal.Stages

open Cert.Trig Idealize.ShloMosaic Idealize.ShloMosaic.TcCoe Idealize.ShloMosaic.Pointwise Cert.ReferenceIdeal Cert.ReferenceIdeal.Gen

/-- The angles at an index. -/
theorem angV_at (k : Fin 4097) (n : Fin 8192) : angV (ix2 k n) = (ang k n : EReal) := by
  unfold angV
  pointwise
  exact Angle.angle_eq _ _ _ (by omega) n.isLt Consts.len (by norm_num)

/-- A cosine at an index. -/
theorem cosV_at (k : Fin 4097) (n : Fin 8192) : Host.cos angV (ix2 k n) = (Real.cos (ang k n) : EReal) := by
  show Ideal.cos (angV (ix2 k n)) = _
  rw [angV_at]; rfl

/-- A sine at an index. -/
theorem sinV_at (k : Fin 4097) (n : Fin 8192) : Host.sin angV (ix2 k n) = (Real.sin (ang k n) : EReal) := by
  show Ideal.sin (angV (ix2 k n)) = _
  rw [angV_at]; rfl

/-- Rows against a table of waves at an index. -/
theorem dot_at (x : FVec Ideal S64x32x8192 .f32) (t : FVec Ideal S4097x8192 .f32) (b : Fin 64) (c : Fin 32) (k : Fin 4097) :
    Host.dotGeneral dot_S64x32x8192_S4097x8192_S64x32x4097_2_1_01_0_n_n (some .fp32) x t (ix3 b c k) = ∑ n : Fin 8192, x (ix3 b c n) * t (ix2 k n) := by
  pointwise

/-- A half spectrum against a table of waves at an index. -/
theorem baV_at (p : FVec Ideal S64x32x4097 .f32) (t : FVec Ideal S4097x8192 .f32) (b : Fin 64) (c : Fin 32) (n : Fin 8192) :
    baV p t (ix3 b c n) = ∑ k : Fin 4097, p (ix3 b c k) * t (ix2 k n) := by
  unfold baV
  pointwise

/-- The real parts at an index. -/
theorem reV_at (x : FVec Ideal S64x32x8192 .f32) (b : Fin 64) (c : Fin 32) (k : Fin 4097) :
    reV x (ix3 b c k) = ∑ n : Fin 8192, x (ix3 b c n) * (Real.cos (ang k n) : EReal) := by
  unfold reV
  rw [dot_at]
  simp only [cosV_at]

/-- The imaginary parts at an index. -/
theorem imV_at (x : FVec Ideal S64x32x8192 .f32) (b : Fin 64) (c : Fin 32) (k : Fin 4097) :
    imV x (ix3 b c k) = - ∑ n : Fin 8192, x (ix3 b c n) * (Real.sin (ang k n) : EReal) := by
  unfold imV
  show - (Host.dotGeneral dot_S64x32x8192_S4097x8192_S64x32x4097_2_1_01_0_n_n (some .fp32) x (Host.sin angV) (ix3 b c k)) = _
  rw [dot_at]
  simp only [sinV_at]

/-- The magnitudes at an index. -/
theorem mgV_at (x : FVec Ideal S64x32x8192 .f32) (b : Fin 64) (c : Fin 32) (k : Fin 4097) :
    mgV x (ix3 b c k) = Ideal.sqrt (reV x (ix3 b c k) * reV x (ix3 b c k) + imV x (ix3 b c k) * imV x (ix3 b c k)) := rfl

/-- The mask of any positions at an index. -/
theorem mk_at (t : IVec S64x32x5 32) (b : Fin 64) (c : Fin 32) (k : Fin 4097) :
    Host.reduce IntOp.ori
      (cmpi .eq (broadcastInDim S64x32x5x4097 ![0, 1, 2, 3] bcast_S1x1x1x4097_S64x32x5x4097_0_1_2_3 (broadcastInDim S1x1x1x4097 ![3] bcast_S4097_S1x1x1x4097_3 (iotaInDim S4097 32 0)))
        (broadcastInDim S64x32x5x4097 ![0, 1, 2, 3] bcast_S64x32x5x1_S64x32x5x4097_0_1_2_3 (broadcastInDim S64x32x5x1 ![0, 1, 2] bcast_S64x32x5_S64x32x5x1_0_1_2 t)))
      (constantI S_ 1 0#1) reducesTo_S64x32x5x4097_S64x32x4097_d2 h_S_ (ix3 b c k)
      = Finset.fold IntOp.ori (0#1) (fun j : Fin 5 => IntOp.cmpi .eq (BitVec.ofNat 32 k.val) (t (ix3 b c j))) Finset.univ := by
  pointwise

/-- The weights at an index. -/
theorem wtV_at (k : Fin 4097) : wtV (ix1 k) = Scalar.select (IntOp.ori (IntOp.cmpi .eq (BitVec.ofNat 32 k.val) 0#32) (IntOp.cmpi .eq (BitVec.ofNat 32 k.val) 4096#32))
    (1 : EReal) (Ideal.ofBits FTy.f32 0x40000000#32) := by
  unfold wtV
  pointwise

/-- A masked part at an index. -/
theorem chV_at (mk : IVec S64x32x4097 1) (z : FVec Ideal S64x32x4097 .f32) (b : Fin 64) (c : Fin 32) (k : Fin 4097) :
    chV mk z (ix3 b c k) = Scalar.select (mk (ix3 b c k)) (z (ix3 b c k)) (0 : EReal) := by
  unfold chV
  pointwise

/-- The spread weights at an index. -/
theorem spV_at (w : FVec Ideal S4097 .f32) (b : Fin 64) (c : Fin 32) (k : Fin 4097) : spV w (ix3 b c k) = w (ix1 k) := by
  unfold spV
  pointwise

/-- The scaled difference at an index. -/
theorem scV_at (p q : FVec Ideal S64x32x8192 .f32) (b : Fin 64) (c : Fin 32) (n : Fin 8192) :
    scV p q (ix3 b c n) = (p (ix3 b c n) - q (ix3 b c n)) * Ideal.ofBits FTy.f32 0x39000000#32 := by
  unfold scV
  pointwise

end Cert.ReferenceIdeal.Stages
-- ==== Proof.Zero.lean ====
/- The magnitudes with the zero frequency's set to zero, read at an index. -/
module

public import proofs.«01_k».proof.Proof.HostAt

@[expose] public section

set_option maxRecDepth 16384

noncomputable section

namespace Cert.ReferenceIdeal.Stages

open Idealize.ShloMosaic Idealize.ShloMosaic.TcCoe Idealize.ShloMosaic.Pointwise Idealize.ShloMosaic.Routing Cert.ReferenceIdeal Cert.ReferenceIdeal.Gen

section

variable {A B N : ℕ} (d : ScatterDims ⟨3, ![A, B, N]⟩ ⟨1, ![1]⟩ ⟨2, ![A, B]⟩) (huw : d.updateWindowDims = [0, 1])
  (hiw : d.insertedWindowDims = [2]) (hsd : d.scatterDimsToOperandDims = [2])

include hiw in
/-- The last axis has no window. -/
theorem window_last (j : (⟨2, ![A, B]⟩ : Shape).Idx) : d.window j 2 = 0 := by
  unfold ScatterDims.window
  rw [dif_neg fun h => (of_decide_eq_true (List.mem_filter.1 h).2) (by rw [hiw]; exact List.mem_singleton.2 rfl)]

include hsd in
/-- The last axis starts at the one index word. -/
theorem start_last (j : (⟨2, ![A, B]⟩ : Shape).Idx) (i : IVec ⟨1, ![1]⟩ 32) (hi : ∀ q, i q = 0#32) : d.start j i 2 = 0 := by
  unfold ScatterDims.start
  rw [dif_pos (by rw [hsd]; exact List.mem_singleton.2 rfl), hi]
  rfl

include hsd in
/-- The other axes start at zero. -/
theorem start_other (j : (⟨2, ![A, B]⟩ : Shape).Idx) (i : IVec ⟨1, ![1]⟩ 32) (a : Fin 3) (ha : a ≠ 2) : d.start j i a = 0 := by
  unfold ScatterDims.start
  rw [dif_neg (by rw [hsd]; exact fun h => ha (List.mem_singleton.1 h))]

include huw hiw in
/-- The other axes' windows are the update's axes. -/
theorem window_other (b : Fin A) (c : Fin B) : d.window (ix2 b c) 0 = b.val ∧ d.window (ix2 b c) 1 = c.val := by
  have hk : d.sKept = [0, 1] := by
    show (List.finRange 3).filter (fun a => decide (a ∉ d.insertedWindowDims)) = _
    rw [hiw]; rfl
  constructor
  · unfold ScatterDims.window
    rw [dif_pos (by rw [hk]; simp)]
    have : ∀ X : Fin 2, X = 0 → ((ix2 b c : (⟨2, ![A, B]⟩ : Shape).Idx) X).val = b.val := by rintro _ rfl; rfl
    refine this _ ?_
    simp [hk, huw]
  · unfold ScatterDims.window
    rw [dif_pos (by rw [hk]; simp)]
    have : ∀ X : Fin 2, X = 1 → ((ix2 b c : (⟨2, ![A, B]⟩ : Shape).Idx) X).val = c.val := by rintro _ rfl; rfl
    refine this _ ?_
    simp [hk, huw]

include huw hiw hsd in
/-- Setting the last axis's entry zero to a constant. -/
theorem scatter_zero {α : Type} (x : (⟨3, ![A, B, N]⟩ : Shape).Idx → α) (i : IVec ⟨1, ![1]⟩ 32) (hi : ∀ q, i q = 0#32)
    (u : (⟨2, ![A, B]⟩ : Shape).Idx → α) (v : α) (hu : ∀ q, u q = v) (b : Fin A) (c : Fin B) (k : Fin N) :
    Host.scatter d (fun _ y => y) x i u (ix3 b c k) = if k.val = 0 then v else x (ix3 b c k) := by
  by_cases h : k.val = 0
  · rw [if_pos h]
    refine scatter_set_hit d x i u _ v (fun q _ => hu q) (ix2 b c) ((resultIdx?_eq_some d _ _ _).2 fun a => ?_)
    match a with
    | ⟨0, _⟩ =>
      refine Eq.trans (congrArg₂ (· + ·) (start_other d hsd _ i 0 (by decide)) (congrArg Nat.cast (window_other d huw hiw b c).1)) ?_
      exact zero_add _
    | ⟨1, _⟩ =>
      refine Eq.trans (congrArg₂ (· + ·) (start_other d hsd _ i 1 (by decide)) (congrArg Nat.cast (window_other d huw hiw b c).2)) ?_
      exact zero_add _
    | ⟨2, _⟩ =>
      refine Eq.trans (congrArg₂ (· + ·) (start_last d hsd _ i hi) (congrArg Nat.cast (window_last d hiw _))) ?_
      show (0 : ℤ) + 0 = (k.val : ℤ)
      rw [h]; rfl
  · rw [if_neg h]
    refine scatter_set_miss d x i u _ fun q hq => h ?_
    have e := (resultIdx?_eq_some d _ _ _).1 hq 2
    rw [start_last d hsd _ i hi, window_last d hiw] at e
    have e' : (0 : ℤ) + 0 = (k.val : ℤ) := e
    omega

end

/-- The magnitudes but the zero frequency's at an index. -/
theorem frV_at (x : FVec Ideal S64x32x8192 .f32) (b : Fin 64) (c : Fin 32) (k : Fin 4097) :
    frV x (ix3 b c k) = if k.val = 0 then 0 else mgV x (ix3 b c k) := by
  unfold frV
  refine scatter_zero _ rfl rfl rfl (mgV x) _ (fun q => ?_) _ 0 (fun q => ?_) b c k
  · rfl
  · rw [eq_ix2 q]; pointwise

end Cert.ReferenceIdeal.Stages
-- ==== Proof.Row.lean ====
/- One row of the reference under the precondition: it is real, its picks are what they should be, and its season is five waves. -/
module

public import proofs.«01_k».proof.Proof.Zero
public import proofs.«01_k».proof.Proof.Block

@[expose] public section

set_option maxRecDepth 16384

noncomputable section

namespace Cert.ReferenceIdeal.Stages

open Cert.Trig Cert.Top Cert.Finite Cert.KernelIdeal.Rounds Idealize.ShloMosaic Idealize.ShloMosaic.TcCoe Idealize.ShloMosaic.Pointwise Cert.ReferenceIdeal Cert.ReferenceIdeal.Gen

variable (x : FVec Ideal S64x32x8192 .f32) (b : Fin 64) (c : Fin 32)

/-- A row's magnitudes. -/
def rowV : Fin 4097 → EReal := fun k => frV x (ix3 b c k)

/-- The position of a row's `j`-th greatest magnitude. -/
def pick (j : ℕ) : ℕ := if h : j < 4097 then (order (rowV x b c) ⟨j, h⟩).val else 0

/-- The row's reals. -/
def xr (n : ℕ) : ℝ := if h : n < 8192 then (x (ix3 b c ⟨n, h⟩)).toReal else 0

/-- Neighbours of a slice compared at an index. -/
theorem cmp_at (t : FVec Ideal Pre_no_ties.S64x32x6 .f32) (j : Fin 5) :
    cmpf (F := Ideal) (φ := .f32) .ogt
        (extractStridedSlice Pre_no_ties.S64x32x5 ![0, 0, 0] t Pre_no_ties.Facts.slices_S64x32x6_S64x32x5_0_0_0)
        (extractStridedSlice Pre_no_ties.S64x32x5 ![0, 0, 1] t Pre_no_ties.Facts.slices_S64x32x6_S64x32x5_0_0_1) (ix3 b c j)
      = BitVec.ofBool (decide (t (ix3 b c ⟨1 + j.val, by omega⟩) < t (ix3 b c ⟨j.val, by omega⟩))) := by
  pointwise

/-- No magnitude is negative. -/
theorem rowV_nonneg (k : Fin 4097) : 0 ≤ rowV x b c k := by
  unfold rowV
  rw [frV_at]
  split
  · exact le_refl _
  · rw [mgV_at]
    exact sqrt_nonneg (add_nonneg (sq_nonneg _) (sq_nonneg _))

/-- The zero frequency's magnitude is zero. -/
theorem rowV_zero (k : Fin 4097) (h : k.val = 0) : rowV x b c k = 0 := by
  unfold rowV
  rw [frV_at, if_pos h]

variable (hp : ∀ q, Pre_no_ties.fn (F := Ideal) x q = 1#1)

include hp

/-- The six greatest magnitudes strictly decrease. -/
theorem step (j : ℕ) (hj : j < 5) : rowV x b c (order (rowV x b c) ⟨j + 1, by omega⟩) < rowV x b c (order (rowV x b c) ⟨j, by omega⟩) := by
  have h := hp (ix3 b c ⟨j, hj⟩)
  rw [pre_eq, cmp_at, topK_val _ _ (by norm_num), topK_val _ _ (by norm_num)] at h
  have e : ∀ p : Bool, BitVec.ofBool p = 1#1 → p = true := by decide
  have h' : rowV x b c (order (rowV x b c) ⟨1 + j, by omega⟩) < rowV x b c (order (rowV x b c) ⟨j, by omega⟩) := of_decide_eq_true (e _ h)
  rwa [show (⟨1 + j, by omega⟩ : Fin 4097) = ⟨j + 1, by omega⟩ from Fin.ext (add_comm _ _)] at h'

/-- A pick among the first five is not the zero frequency. -/
theorem order_ne_zero (j : ℕ) (hj : j < 5) : (order (rowV x b c) ⟨j, by omega⟩).val ≠ 0 := fun h => by
  have := step x b c hp j hj
  rw [rowV_zero x b c _ h] at this
  exact absurd this (not_lt.2 (rowV_nonneg x b c _))

/-- The row is real. -/
theorem row_fin (n : Fin 8192) : fin (x (ix3 b c n)) := by
  have h1 := step x b c hp 0 (by norm_num)
  have h0 := order_ne_zero x b c hp 1 (by norm_num)
  generalize order (rowV x b c) ⟨0 + 1, _⟩ = k at h1 h0
  have ht : rowV x b c k ≠ ⊤ := ne_top_of_lt h1
  unfold rowV at ht
  rw [frV_at, if_neg h0, mgV_at] at ht
  obtain ⟨hr, hi⟩ := fin_sq (sqrt_ne_top ht)
  rw [reV_at] at hr
  rw [imV_at] at hi
  by_cases hc : Real.cos (ang k n) = 0
  · have hs : Real.sin (ang k n) ≠ 0 := fun hs => by
      have := Real.sin_sq_add_cos_sq (ang k n)
      rw [hc, hs] at this
      norm_num at this
    exact fin_mul hs (fin_sum _ _ (fin_neg hi) n (Finset.mem_univ _))
  · exact fin_mul hc (fin_sum _ _ hr n (Finset.mem_univ _))

/-- The row's entries are its reals. -/
theorem row_coe (n : Fin 8192) : x (ix3 b c n) = (xr x b c n : EReal) := by
  unfold xr
  rw [dif_pos n.isLt]
  exact (row_fin x b c hp n).coe

/-- The spectrum's real part is real. -/
theorem re_coe (k : Fin 4097) : reV x (ix3 b c k) = (re (xr x b c) k : EReal) := by
  rw [reV_at]
  unfold re
  rw [Consts.coe_sum]
  refine Finset.sum_congr rfl fun n _ => ?_
  rw [row_coe x b c hp, EReal.coe_mul]

/-- The spectrum's imaginary part is real. -/
theorem im_coe (k : Fin 4097) : imV x (ix3 b c k) = (im (xr x b c) k : EReal) := by
  rw [imV_at]
  unfold im
  rw [EReal.coe_neg, Consts.coe_sum]
  refine congrArg _ (Finset.sum_congr rfl fun n _ => ?_)
  rw [row_coe x b c hp, EReal.coe_mul]

/-- A magnitude is the root of the power. -/
theorem row_sqrt (k : Fin 4097) (hk : k.val ≠ 0) : rowV x b c k = (Real.sqrt (pw (xr x b c) k) : EReal) := by
  unfold rowV
  rw [frV_at, if_neg hk, mgV_at, re_coe x b c hp, im_coe x b c hp, ← EReal.coe_mul, ← EReal.coe_mul, ← EReal.coe_add]
  exact sqrt_coe (add_nonneg (mul_self_nonneg _) (mul_self_nonneg _))

omit hp in
/-- A pick at a small position. -/
theorem pick_of (j : ℕ) (hj : j < 4097) : pick x b c j = (order (rowV x b c) ⟨j, hj⟩).val := dif_pos hj

omit hp in
/-- Picks at different positions differ. -/
theorem pick_inj (i j : ℕ) (hi : i < 4097) (hj : j < 4097) (h : pick x b c i = pick x b c j) : i = j := by
  rw [pick_of x b c i hi, pick_of x b c j hj] at h
  exact congrArg Fin.val (order_injective _ (Fin.ext h))

/-- Each of the five positions is the pick of the bins not picked before. -/
theorem picks (k : ℕ) (hk : k < 5) : Pick (pw (xr x b c)) ((Finset.range k).image (pick x b c)) (pick x b c k) where
  fresh h := by
    obtain ⟨i, hi, e⟩ := Finset.mem_image.1 h
    have hi := Finset.mem_range.1 hi
    have := pick_inj x b c i k (by omega) (by omega) e
    omega
  lo := by
    rw [pick_of x b c k (by omega)]
    exact Nat.one_le_iff_ne_zero.2 (order_ne_zero x b c hp k hk)
  hi := by
    rw [pick_of x b c k (by omega)]
    omega
  nonneg := add_nonneg (mul_self_nonneg _) (mul_self_nonneg _)
  lt g h1 h2 hS hne := by
    obtain ⟨⟨i, hi⟩, e⟩ := order_surjective (rowV x b c) ⟨g, by omega⟩
    have eg : pick x b c i = g := by rw [pick_of x b c i hi, e]
    have hik : k < i := by
      rcases Nat.lt_trichotomy i k with h | h | h
      · exact absurd (Finset.mem_image.2 ⟨i, Finset.mem_range.2 h, eg⟩) hS
      · subst h; exact absurd eg.symm hne
      · exact h
    have hle : rowV x b c (order (rowV x b c) ⟨i, hi⟩) ≤ rowV x b c (order (rowV x b c) ⟨k + 1, by omega⟩) := by
      rcases Nat.lt_or_ge (k + 1) i with h | h
      · exact order_anti _ _ _ h
      · obtain rfl : i = k + 1 := by omega
        exact le_refl _
    have hlt := lt_of_le_of_lt hle (step x b c hp k hk)
    rw [e, row_sqrt x b c hp _ (order_ne_zero x b c hp k hk), row_sqrt x b c hp ⟨g, _⟩ (by show g ≠ 0; omega), EReal.coe_lt_coe_iff] at hlt
    rw [pick_of x b c k (by omega)]
    exact (Real.sqrt_lt_sqrt_iff (add_nonneg (mul_self_nonneg _) (mul_self_nonneg _))).1 hlt

omit hp in
/-- The mask is set at the five picks. -/
theorem mask_at (k : Fin 4097) : mkV x (ix3 b c k) = BitVec.ofBool (decide (k.val ∈ (Finset.range 5).image (pick x b c))) := by
  have h1 : mkV x (ix3 b c k) = 1#1 ↔ k.val ∈ (Finset.range 5).image (pick x b c) := by
    unfold mkV
    rw [mk_at, Routing.fold_ori]
    simp only [Finset.mem_univ, true_and, Finset.mem_image, Finset.mem_range]
    have e : ∀ j : Fin 5, IntOp.cmpi .eq (BitVec.ofNat 32 k.val) (idxV x (ix3 b c j)) = 1#1 ↔ pick x b c j = k.val := fun j => by
      unfold idxV
      rw [topK_idx _ _ (by norm_num), word_eq _ _ (by omega) (by omega), pick_of x b c j (by omega)]
      have : ∀ p : Bool, BitVec.ofBool p = 1#1 ↔ p = true := by decide
      rw [this, decide_eq_true_iff]
      exact eq_comm
    constructor
    · rintro ⟨j, h⟩
      exact ⟨j, j.isLt, (e j).1 h⟩
    · rintro ⟨j, hj, h⟩
      exact ⟨⟨j, hj⟩, (e ⟨j, hj⟩).2 h⟩
  by_cases h : k.val ∈ (Finset.range 5).image (pick x b c)
  · rw [h1.2 h, decide_eq_true h]; rfl
  · rw [decide_eq_false h]
    exact (BitVec.eq_zero_or_eq_one _).resolve_right fun q => h (h1.1 q)

omit hp in
/-- The weight of a bin that is not zero. -/
theorem weight_at (k : Fin 4097) (hk : k.val ≠ 0) : wtV (ix1 k) = ((if k.val = 4096 then 1 else 2 : ℝ) : EReal) := by
  rw [wtV_at, show (0#32) = BitVec.ofNat 32 0 from rfl, show (4096#32) = BitVec.ofNat 32 4096 from rfl,
    word_eq _ _ (by omega) (by norm_num), word_eq _ _ (by omega) (by norm_num), decide_eq_false hk, Consts.two]
  by_cases h : k.val = 4096
  · rw [decide_eq_true h, if_pos h]; rfl
  · rw [decide_eq_false h, if_neg h]; exact select_false _ _

omit hp in
/-- A product of vectors at an index. -/
theorem mul_at {s : Shape} (p q : FVec Ideal s .f32) (i : s.Idx) : mulf p q i = p i * q i := rfl

omit hp in
/-- A set bit selects the first. -/
theorem select_true (u v : EReal) : Scalar.select (BitVec.ofBool true) u v = u := rfl

omit hp in
/-- The masked part of a real spectrum. -/
theorem part_at (z : FVec Ideal S64x32x4097 .f32) (zr : ℕ → ℝ) (hz : ∀ k : Fin 4097, z (ix3 b c k) = (zr k : EReal))
    (h0 : ∀ j < 5, pick x b c j ≠ 0) (k : Fin 4097) :
    mulf (chV (mkV x) z) (spV wtV) (ix3 b c k)
      = ((if k.val ∈ (Finset.range 5).image (pick x b c) then zr k * (if k.val = 4096 then 1 else 2) else 0 : ℝ) : EReal) := by
  rw [mul_at, chV_at, spV_at, mask_at, hz]
  by_cases h : k.val ∈ (Finset.range 5).image (pick x b c)
  · rw [decide_eq_true h, if_pos h, weight_at k (fun e => by
      obtain ⟨j, hj, q⟩ := Finset.mem_image.1 h
      exact h0 j (Finset.mem_range.1 hj) (q.trans e)), EReal.coe_mul, select_true]
  · rw [decide_eq_false h, if_neg h, select_false, zero_mul, EReal.coe_zero]

omit hp in
/-- A half spectrum's masked part against waves is a sum over the picks. -/
theorem back_at (z : FVec Ideal S64x32x4097 .f32) (zr : ℕ → ℝ) (hz : ∀ k : Fin 4097, z (ix3 b c k) = (zr k : EReal))
    (h0 : ∀ j < 5, pick x b c j ≠ 0) (t : FVec Ideal S4097x8192 .f32) (tr : ℕ → ℝ) (n : Fin 8192) (ht : ∀ k : Fin 4097, t (ix2 k n) = (tr k : EReal)) :
    baV (mulf (chV (mkV x) z) (spV wtV)) t (ix3 b c n)
      = ((∑ j ∈ Finset.range 5, zr (pick x b c j) * (if pick x b c j = 4096 then 1 else 2) * tr (pick x b c j) : ℝ) : EReal) := by
  rw [baV_at]
  have e : ∀ k : Fin 4097, mulf (chV (mkV x) z) (spV wtV) (ix3 b c k) * t (ix2 k n)
      = ((if k.val ∈ (Finset.range 5).image (pick x b c) then zr k * (if k.val = 4096 then 1 else 2) * tr k else 0 : ℝ) : EReal) := fun k => by
    rw [part_at x b c z zr hz h0, ht, ← EReal.coe_mul, ite_mul, zero_mul]
  rw [Finset.sum_congr rfl fun k _ => e k, ← Consts.coe_sum]
  refine congrArg Real.toEReal ?_
  rw [Fin.sum_univ_eq_sum_range (fun k => if k ∈ (Finset.range 5).image (pick x b c) then zr k * (if k = 4096 then 1 else 2) * tr k else 0) 4097,
    ← Finset.sum_filter, Finset.filter_mem_eq_inter, Finset.inter_eq_right.2 ?_, Finset.sum_image ?_]
  · intro i hi j hj h
    exact pick_inj x b c i j (by have := Finset.mem_range.1 hi; omega) (by have := Finset.mem_range.1 hj; omega) h
  · intro k hk
    obtain ⟨j, hj, q⟩ := Finset.mem_image.1 hk
    have hj := Finset.mem_range.1 hj
    rw [← q, pick_of x b c j (by omega)]
    exact Finset.mem_range.2 (Fin.isLt _)

/-- The season of a row is the waves of its five picks. -/
theorem season_at (n : Fin 8192) : seV x (ix3 b c n) = (waves (xr x b c) (pick x b c) 5 n : EReal) := by
  have h0 : ∀ j < 5, pick x b c j ≠ 0 := fun j hj => by
    have := (picks x b c hp j hj).lo
    omega
  unfold seV
  rw [scV_at, back_at x b c (reV x) (re (xr x b c)) (re_coe x b c hp) h0 (Host.cos angV) (fun k => Real.cos (ang k n)) n (fun k => cosV_at k n),
    back_at x b c (imV x) (im (xr x b c)) (im_coe x b c hp) h0 (Host.sin angV) (fun k => Real.sin (ang k n)) n (fun k => sinV_at k n),
    Consts.inv_len, ← EReal.coe_sub, ← EReal.coe_mul]
  refine congrArg Real.toEReal ?_
  unfold waves wt
  rw [← Finset.sum_sub_distrib, Finset.sum_mul]
  refine Finset.sum_congr rfl fun j _ => ?_
  ring

end Cert.ReferenceIdeal.Stages
-- ==== Proof.Out.lean ====
/- The kernel's two results are the reference's where no magnitudes tie. -/
module

public import proofs.«01_k».proof.Proof.Blk
public import proofs.«01_k».proof.Proof.Row

@[expose] public section

set_option maxRecDepth 16384

noncomputable section

namespace Cert.KernelIdeal.Out

open Cert.Trig Idealize.ShloMosaic Idealize.ShloMosaic.TcCoe Idealize.ShloMosaic.Pointwise Cert.KernelIdeal Cert.KernelIdeal.Gen Cert.ReferenceIdeal.Stages

variable (m : (ℓ : Loc nD τ sig) → Buf (Elt Ideal) ℓ) (c : Dev nD) (x : FVec Ideal ReferenceIdeal.S64x32x8192 .f32)
  (hx : m ((c.tc : Thread nD τ).loc main_arg0) = x) (hp : ∀ q, Pre_no_ties.fn (F := Ideal) x q = 1#1)

/-- A row of the reference's reshaped result. -/
theorem cast_at (y : FVec Ideal ReferenceIdeal.S64x32x8192 .f32) (b : Fin 64) (d : Fin 32) (i : Fin 64) (j : Fin 128) :
    shapeCast ReferenceIdeal.S2048x64x128 y ReferenceIdeal.Gen.shapeCasts_S64x32x8192_S2048x64x128 (ix3 ⟨32 * b.val + d.val, by omega⟩ i j)
      = y (ix3 b d ⟨128 * i.val + j.val, by omega⟩) := by
  pointwise
  exact congrArg y (congrArg (ix3 b d) (Fin.ext (by show i.val * 128 + j.val = 128 * i.val + j.val; omega)))

include hx hp in
/-- A block's row is the row's reals. -/
theorem block_row (t : Fin 64) (b : Fin 32) (i : Fin 64) (j : Fin 128) :
    iblk m c 0 t (ix3 b i j) = (xr x t b (128 * i + j) : EReal) := by
  refine (Blk.iblk0 m c t b i j).trans ((Tab.v1 m c _ i j).trans ?_)
  rw [hx]
  refine Eq.trans (congrArg x ?_) (row_coe x t b hp ⟨128 * i.val + j.val, by omega⟩)
  rw [show (⟨(32 * t.val + b.val) / 32, by omega⟩ : Fin 64) = t from Fin.ext (by show (32 * t.val + b.val) / 32 = t.val; omega),
    show (⟨(32 * t.val + b.val) % 32, by omega⟩ : Fin 32) = b from Fin.ext (by show (32 * t.val + b.val) % 32 = b.val; omega)]

include hx hp in
/-- The season. -/
theorem season : (dats m 0 c).arrAt 11 cfg0.N = shapeCast ReferenceIdeal.S2048x64x128 (seV x) ReferenceIdeal.Gen.shapeCasts_S64x32x8192_S2048x64x128 := by
  funext y
  obtain ⟨r, i, j, rfl⟩ : ∃ (r : Fin 2048) (i : Fin 64) (j : Fin 128), y = ix3 r i j := ⟨_, _, _, eq_ix3 y⟩
  obtain ⟨t, b, rfl⟩ : ∃ (t : Fin 64) (b : Fin 32), r = ⟨32 * t.val + b.val, by omega⟩ :=
    ⟨⟨r.val / 32, by omega⟩, ⟨r.val % 32, by omega⟩, Fin.ext (by show r.val = 32 * (r.val / 32) + r.val % 32; omega)⟩
  refine (Blk.final11 m c t b i j).trans (Eq.trans ?_ (cast_at (seV x) t b i j).symm)
  refine (Rounds.block_season (iblk m c 0 t) (Blk.tables m c) (block_row m c x hx hp t b) (pick x t b) (picks x t b hp) i j).trans ?_
  exact (season_at x t b hp ⟨128 * i.val + j.val, by omega⟩).symm

include hx hp in
/-- The trend. -/
theorem trend : (dats m 0 c).arrAt 12 cfg0.N = shapeCast ReferenceIdeal.S2048x64x128 (subf (φ := .f32) x (seV x)) ReferenceIdeal.Gen.shapeCasts_S64x32x8192_S2048x64x128 := by
  funext y
  obtain ⟨r, i, j, rfl⟩ : ∃ (r : Fin 2048) (i : Fin 64) (j : Fin 128), y = ix3 r i j := ⟨_, _, _, eq_ix3 y⟩
  obtain ⟨t, b, rfl⟩ : ∃ (t : Fin 64) (b : Fin 32), r = ⟨32 * t.val + b.val, by omega⟩ :=
    ⟨⟨r.val / 32, by omega⟩, ⟨r.val % 32, by omega⟩, Fin.ext (by show r.val = 32 * (r.val / 32) + r.val % 32; omega)⟩
  refine (Blk.final12 m c t b i j).trans (Eq.trans ?_ (cast_at (subf (φ := .f32) x (seV x)) t b i j).symm)
  refine (Rounds.block_trend (iblk m c 0 t) (Blk.tables m c) (block_row m c x hx hp t b) (pick x t b) (picks x t b hp) i j).trans ?_
  refine (EReal.coe_sub _ _).trans (congrArg₂ (· - ·) ?_ ?_)
  · exact (row_coe x t b hp ⟨128 * i.val + j.val, by omega⟩).symm
  · exact (season_at x t b hp ⟨128 * i.val + j.val, by omega⟩).symm

end Cert.KernelIdeal.Out
-- ==== Proof.lean ====
/- The proof of the claim: the frames of the kernel and of the reference, and the equality of both results over the extended reals
   where no two of a row's six greatest magnitudes tie. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.KernelIdeal.Value
public import proofs.«01_k».proof.Proof.Gen.Pre_no_ties
public import proofs.«01_k».proof.Proof.Out
public import Idealize.ShloMosaic.Lib.Claim
public import Idealize.ShloMosaic.Adequacy
public import Idealize.ShloMosaic.Init

@[expose] public section

noncomputable section

namespace Cert.Proof

open Idealize.ShloMosaic Idealize.SL.Sem Idealize.ShloMosaic.TcCoe

/-- The kernel and the reference end with equal seasons and equal trends. -/
theorem algebraic : Cert.algebraic_KernelIdeal_ReferenceIdeal_pre_no_ties (hKernelIdeal := Cert.KernelIdeal.Gen.facts)
    (hReferenceIdeal := Cert.ReferenceIdeal.Gen.facts) (hPre_no_ties := Cert.Pre_no_ties.Gen.facts) := by
  intro m g m' g' hpre hagree
  refine ⟨_, _, Cert.KernelIdeal.Value.run_blocks m g, ?_⟩
  refine (θ_run Cert.ReferenceIdeal.defs _ _).mono (fun r h c => ?_) (Cert.ReferenceIdeal.Value.run m' g')
  have hp : ∀ q, Cert.Pre_no_ties.fn (F := Ideal) (m ((c.tc : Thread Cert.KernelIdeal.nD Cert.KernelIdeal.τ).loc Cert.KernelIdeal.main_arg0)) q = 1#1 :=
    fun q => congrFun (hpre c) q
  obtain ⟨h0, h1, h2⟩ := h c
  refine ⟨h0.trans ?_, h1.trans ?_, h2⟩
  · refine (Cert.ReferenceIdeal.Stages.out0_eq m' c).trans ?_
    rw [hagree c]
    exact (Cert.KernelIdeal.Out.season m c _ rfl hp).symm
  · refine (Cert.ReferenceIdeal.Stages.out1_eq m' c).trans ?_
    rw [hagree c]
    exact (Cert.KernelIdeal.Out.trend m c _ rfl hp).symm

/-- The reference runs, leaves its argument as it was, and ends with every counter at zero. -/
theorem reference_frame (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0) :=
  (θ_run Cert.ReferenceIdeal.defs _ _).mono (fun r h => ⟨fun c => (h c).2.2, sem_eq_zero_of_no_sems (by decide) r.2⟩)
    (Cert.ReferenceIdeal.Value.run (F := Ideal) m g)

/-- The whole claim. -/
theorem claim : Cert.Claim := ⟨Cert.Kernel.Gen.facts, Cert.KernelIdeal.Gen.facts, Cert.ReferenceIdeal.Gen.facts, Cert.Pre_no_ties.Gen.facts,
  fun m ρ _ => Cert.Kernel.Gen.frame m ρ, fun m ρ _ => Cert.KernelIdeal.Gen.frame m ρ, fun m ρ _ => Cert.KernelIdeal.Gen.frame m ρ,
  fun m ρ _ => reference_frame m ρ, fun m ρ _ => reference_frame m ρ, trivial, algebraic⟩

end Cert.Proof

end
